-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_unmasked [hPre_all_unmasked : Cert.Pre_all_unmasked.Facts] (m : (ℓ : Loc Cert.KernelIdeal.nD Cert.KernelIdeal.τ Cert.KernelIdeal.sig) → Buf (Elt Ideal) ℓ) : Prop :=
  ∀ c : Dev Cert.KernelIdeal.nD,
    (Cert.Pre_all_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_unmasked_above_minus_infinity [hPre_unmasked_above_minus_infinity : Cert.Pre_unmasked_above_minus_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_unmasked_above_minus_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_unmasked [hPre_all_unmasked : Cert.Pre_all_unmasked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_ReferenceArgmaxIdeal (m : (ℓ : Loc Cert.ReferenceArgmaxIdeal.nD Cert.ReferenceArgmaxIdeal.τ Cert.ReferenceArgmaxIdeal.sig) → Buf (Elt Ideal) ℓ) : Prop :=
  True

def Pre_ReferenceArgmaxIdeal_unmasked_above_minus_infinity [hPre_unmasked_above_minus_infinity : Cert.Pre_unmasked_above_minus_infinity.Facts] (m : (ℓ : Loc Cert.ReferenceArgmaxIdeal.nD Cert.ReferenceArgmaxIdeal.τ Cert.ReferenceArgmaxIdeal.sig) → Buf (Elt Ideal) ℓ) : Prop :=
  ∀ c : Dev Cert.ReferenceArgmaxIdeal.nD,
    (Cert.Pre_unmasked_above_minus_infinity.fn (F := Ideal) (m ((c.tc : Thread Cert.ReferenceArgmaxIdeal.nD Cert.ReferenceArgmaxIdeal.τ).loc Cert.ReferenceArgmaxIdeal.main_arg0)) (m ((c.tc : Thread Cert.ReferenceArgmaxIdeal.nD Cert.ReferenceArgmaxIdeal.τ).loc Cert.ReferenceArgmaxIdeal.main_arg1)) (m ((c.tc : Thread Cert.ReferenceArgmaxIdeal.nD Cert.ReferenceArgmaxIdeal.τ).loc Cert.ReferenceArgmaxIdeal.main_arg2)) (m ((c.tc : Thread Cert.ReferenceArgmaxIdeal.nD Cert.ReferenceArgmaxIdeal.τ).loc Cert.ReferenceArgmaxIdeal.main_arg3)) (m ((c.tc : Thread Cert.ReferenceArgmaxIdeal.nD Cert.ReferenceArgmaxIdeal.τ).loc Cert.ReferenceArgmaxIdeal.main_arg4)) (m ((c.tc : Thread Cert.ReferenceArgmaxIdeal.nD Cert.ReferenceArgmaxIdeal.τ).loc Cert.ReferenceArgmaxIdeal.main_arg5)) (m ((c.tc : Thread Cert.ReferenceArgmaxIdeal.nD Cert.ReferenceArgmaxIdeal.τ).loc Cert.ReferenceArgmaxIdeal.main_arg6)) (m ((c.tc : Thread Cert.ReferenceArgmaxIdeal.nD Cert.ReferenceArgmaxIdeal.τ).loc Cert.ReferenceArgmaxIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_all_unmasked [hKernelIdeal : Cert.KernelIdeal.Facts] [hPre_all_unmasked : Cert.Pre_all_unmasked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_unmasked m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_unmasked_above_minus_infinity [hKernelIdeal : Cert.KernelIdeal.Facts] [hPre_unmasked_above_minus_infinity : Cert.Pre_unmasked_above_minus_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unmasked_above_minus_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_all_unmasked [hReferenceIdeal : Cert.ReferenceIdeal.Facts] [hPre_all_unmasked : Cert.Pre_all_unmasked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_unmasked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceArgmaxIdeal [hReferenceArgmaxIdeal : Cert.ReferenceArgmaxIdeal.Facts] : Prop :=
  ∀ (m : (ℓ : Loc Cert.ReferenceArgmaxIdeal.nD Cert.ReferenceArgmaxIdeal.τ Cert.ReferenceArgmaxIdeal.sig) → Buf (Elt Ideal) ℓ) (g : Dev Cert.ReferenceArgmaxIdeal.nD → PrngReg), Pre_ReferenceArgmaxIdeal m →
    θ_run (Cert.ReferenceArgmaxIdeal.defs (F := Ideal)) (onTc (τ := Cert.ReferenceArgmaxIdeal.τ) (Cert.ReferenceArgmaxIdeal.main (F := Ideal))) ⟨m, fun _ => 0, g⟩ (fun r => (∀ c : Dev Cert.ReferenceArgmaxIdeal.nD,
      r.2.mem ((c.tc : Thread Cert.ReferenceArgmaxIdeal.nD Cert.ReferenceArgmaxIdeal.τ).loc Cert.ReferenceArgmaxIdeal.main_arg0) = m ((c.tc : Thread Cert.ReferenceArgmaxIdeal.nD Cert.ReferenceArgmaxIdeal.τ).loc Cert.ReferenceArgmaxIdeal.main_arg0)
      ∧ r.2.mem ((c.tc : Thread Cert.ReferenceArgmaxIdeal.nD Cert.ReferenceArgmaxIdeal.τ).loc Cert.ReferenceArgmaxIdeal.main_arg1) = m ((c.tc : Thread Cert.ReferenceArgmaxIdeal.nD Cert.ReferenceArgmaxIdeal.τ).loc Cert.ReferenceArgmaxIdeal.main_arg1)
      ∧ r.2.mem ((c.tc : Thread Cert.ReferenceArgmaxIdeal.nD Cert.ReferenceArgmaxIdeal.τ).loc Cert.ReferenceArgmaxIdeal.main_arg2) = m ((c.tc : Thread Cert.ReferenceArgmaxIdeal.nD Cert.ReferenceArgmaxIdeal.τ).loc Cert.ReferenceArgmaxIdeal.main_arg2)
      ∧ r.2.mem ((c.tc : Thread Cert.ReferenceArgmaxIdeal.nD Cert.ReferenceArgmaxIdeal.τ).loc Cert.ReferenceArgmaxIdeal.main_arg3) = m ((c.tc : Thread Cert.ReferenceArgmaxIdeal.nD Cert.ReferenceArgmaxIdeal.τ).loc Cert.ReferenceArgmaxIdeal.main_arg3)
      ∧ r.2.mem ((c.tc : Thread Cert.ReferenceArgmaxIdeal.nD Cert.ReferenceArgmaxIdeal.τ).loc Cert.ReferenceArgmaxIdeal.main_arg4) = m ((c.tc : Thread Cert.ReferenceArgmaxIdeal.nD Cert.ReferenceArgmaxIdeal.τ).loc Cert.ReferenceArgmaxIdeal.main_arg4)
      ∧ r.2.mem ((c.tc : Thread Cert.ReferenceArgmaxIdeal.nD Cert.ReferenceArgmaxIdeal.τ).loc Cert.ReferenceArgmaxIdeal.main_arg5) = m ((c.tc : Thread Cert.ReferenceArgmaxIdeal.nD Cert.ReferenceArgmaxIdeal.τ).loc Cert.ReferenceArgmaxIdeal.main_arg5)
      ∧ r.2.mem ((c.tc : Thread Cert.ReferenceArgmaxIdeal.nD Cert.ReferenceArgmaxIdeal.τ).loc Cert.ReferenceArgmaxIdeal.main_arg6) = m ((c.tc : Thread Cert.ReferenceArgmaxIdeal.nD Cert.ReferenceArgmaxIdeal.τ).loc Cert.ReferenceArgmaxIdeal.main_arg6)
      ∧ r.2.mem ((c.tc : Thread Cert.ReferenceArgmaxIdeal.nD Cert.ReferenceArgmaxIdeal.τ).loc Cert.ReferenceArgmaxIdeal.main_arg7) = m ((c.tc : Thread Cert.ReferenceArgmaxIdeal.nD Cert.ReferenceArgmaxIdeal.τ).loc Cert.ReferenceArgmaxIdeal.main_arg7))
      ∧ r.2.sem = fun _ => 0)

def quiescent_ReferenceArgmaxIdeal_pre_unmasked_above_minus_infinity [hReferenceArgmaxIdeal : Cert.ReferenceArgmaxIdeal.Facts] [hPre_unmasked_above_minus_infinity : Cert.Pre_unmasked_above_minus_infinity.Facts] : Prop :=
  ∀ (m : (ℓ : Loc Cert.ReferenceArgmaxIdeal.nD Cert.ReferenceArgmaxIdeal.τ Cert.ReferenceArgmaxIdeal.sig) → Buf (Elt Ideal) ℓ) (g : Dev Cert.ReferenceArgmaxIdeal.nD → PrngReg), Pre_ReferenceArgmaxIdeal_unmasked_above_minus_infinity m →
    θ_run (Cert.ReferenceArgmaxIdeal.defs (F := Ideal)) (onTc (τ := Cert.ReferenceArgmaxIdeal.τ) (Cert.ReferenceArgmaxIdeal.main (F := Ideal))) ⟨m, fun _ => 0, g⟩ (fun r => (∀ c : Dev Cert.ReferenceArgmaxIdeal.nD,
      r.2.mem ((c.tc : Thread Cert.ReferenceArgmaxIdeal.nD Cert.ReferenceArgmaxIdeal.τ).loc Cert.ReferenceArgmaxIdeal.main_arg0) = m ((c.tc : Thread Cert.ReferenceArgmaxIdeal.nD Cert.ReferenceArgmaxIdeal.τ).loc Cert.ReferenceArgmaxIdeal.main_arg0)
      ∧ r.2.mem ((c.tc : Thread Cert.ReferenceArgmaxIdeal.nD Cert.ReferenceArgmaxIdeal.τ).loc Cert.ReferenceArgmaxIdeal.main_arg1) = m ((c.tc : Thread Cert.ReferenceArgmaxIdeal.nD Cert.ReferenceArgmaxIdeal.τ).loc Cert.ReferenceArgmaxIdeal.main_arg1)
      ∧ r.2.mem ((c.tc : Thread Cert.ReferenceArgmaxIdeal.nD Cert.ReferenceArgmaxIdeal.τ).loc Cert.ReferenceArgmaxIdeal.main_arg2) = m ((c.tc : Thread Cert.ReferenceArgmaxIdeal.nD Cert.ReferenceArgmaxIdeal.τ).loc Cert.ReferenceArgmaxIdeal.main_arg2)
      ∧ r.2.mem ((c.tc : Thread Cert.ReferenceArgmaxIdeal.nD Cert.ReferenceArgmaxIdeal.τ).loc Cert.ReferenceArgmaxIdeal.main_arg3) = m ((c.tc : Thread Cert.ReferenceArgmaxIdeal.nD Cert.ReferenceArgmaxIdeal.τ).loc Cert.ReferenceArgmaxIdeal.main_arg3)
      ∧ r.2.mem ((c.tc : Thread Cert.ReferenceArgmaxIdeal.nD Cert.ReferenceArgmaxIdeal.τ).loc Cert.ReferenceArgmaxIdeal.main_arg4) = m ((c.tc : Thread Cert.ReferenceArgmaxIdeal.nD Cert.ReferenceArgmaxIdeal.τ).loc Cert.ReferenceArgmaxIdeal.main_arg4)
      ∧ r.2.mem ((c.tc : Thread Cert.ReferenceArgmaxIdeal.nD Cert.ReferenceArgmaxIdeal.τ).loc Cert.ReferenceArgmaxIdeal.main_arg5) = m ((c.tc : Thread Cert.ReferenceArgmaxIdeal.nD Cert.ReferenceArgmaxIdeal.τ).loc Cert.ReferenceArgmaxIdeal.main_arg5)
      ∧ r.2.mem ((c.tc : Thread Cert.ReferenceArgmaxIdeal.nD Cert.ReferenceArgmaxIdeal.τ).loc Cert.ReferenceArgmaxIdeal.main_arg6) = m ((c.tc : Thread Cert.ReferenceArgmaxIdeal.nD Cert.ReferenceArgmaxIdeal.τ).loc Cert.ReferenceArgmaxIdeal.main_arg6)
      ∧ r.2.mem ((c.tc : Thread Cert.ReferenceArgmaxIdeal.nD Cert.ReferenceArgmaxIdeal.τ).loc Cert.ReferenceArgmaxIdeal.main_arg7) = m ((c.tc : Thread Cert.ReferenceArgmaxIdeal.nD Cert.ReferenceArgmaxIdeal.τ).loc Cert.ReferenceArgmaxIdeal.main_arg7))
      ∧ r.2.sem = fun _ => 0)

def preserves_Kernel_KernelIdeal : Prop :=
  True

def algebraic_KernelIdeal_ReferenceIdeal_pre_all_unmasked [hKernelIdeal : Cert.KernelIdeal.Facts] [hReferenceIdeal : Cert.ReferenceIdeal.Facts] [hPre_all_unmasked : Cert.Pre_all_unmasked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_unmasked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def algebraic_KernelIdeal_ReferenceArgmaxIdeal_pre_unmasked_above_minus_infinity [hKernelIdeal : Cert.KernelIdeal.Facts] [hReferenceArgmaxIdeal : Cert.ReferenceArgmaxIdeal.Facts] [hPre_unmasked_above_minus_infinity : Cert.Pre_unmasked_above_minus_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceArgmaxIdeal.nD Cert.ReferenceArgmaxIdeal.τ Cert.ReferenceArgmaxIdeal.sig) → Buf (Elt Ideal) ℓ) (g' : Dev Cert.ReferenceArgmaxIdeal.nD → PrngReg), Pre_KernelIdeal_unmasked_above_minus_infinity m →
    (∀ c : Dev Cert.KernelIdeal.nD,
      m' ((c.tc : Thread Cert.ReferenceArgmaxIdeal.nD Cert.ReferenceArgmaxIdeal.τ).loc Cert.ReferenceArgmaxIdeal.main_arg0) = m ((c.tc : Thread Cert.KernelIdeal.nD Cert.KernelIdeal.τ).loc Cert.KernelIdeal.main_arg0)
      ∧ m' ((c.tc : Thread Cert.ReferenceArgmaxIdeal.nD Cert.ReferenceArgmaxIdeal.τ).loc Cert.ReferenceArgmaxIdeal.main_arg1) = m ((c.tc : Thread Cert.KernelIdeal.nD Cert.KernelIdeal.τ).loc Cert.KernelIdeal.main_arg1)
      ∧ m' ((c.tc : Thread Cert.ReferenceArgmaxIdeal.nD Cert.ReferenceArgmaxIdeal.τ).loc Cert.ReferenceArgmaxIdeal.main_arg2) = m ((c.tc : Thread Cert.KernelIdeal.nD Cert.KernelIdeal.τ).loc Cert.KernelIdeal.main_arg2)
      ∧ m' ((c.tc : Thread Cert.ReferenceArgmaxIdeal.nD Cert.ReferenceArgmaxIdeal.τ).loc Cert.ReferenceArgmaxIdeal.main_arg3) = m ((c.tc : Thread Cert.KernelIdeal.nD Cert.KernelIdeal.τ).loc Cert.KernelIdeal.main_arg3)
      ∧ m' ((c.tc : Thread Cert.ReferenceArgmaxIdeal.nD Cert.ReferenceArgmaxIdeal.τ).loc Cert.ReferenceArgmaxIdeal.main_arg4) = m ((c.tc : Thread Cert.KernelIdeal.nD Cert.KernelIdeal.τ).loc Cert.KernelIdeal.main_arg4)
      ∧ m' ((c.tc : Thread Cert.ReferenceArgmaxIdeal.nD Cert.ReferenceArgmaxIdeal.τ).loc Cert.ReferenceArgmaxIdeal.main_arg5) = m ((c.tc : Thread Cert.KernelIdeal.nD Cert.KernelIdeal.τ).loc Cert.KernelIdeal.main_arg5)
      ∧ m' ((c.tc : Thread Cert.ReferenceArgmaxIdeal.nD Cert.ReferenceArgmaxIdeal.τ).loc Cert.ReferenceArgmaxIdeal.main_arg6) = m ((c.tc : Thread Cert.KernelIdeal.nD Cert.KernelIdeal.τ).loc Cert.KernelIdeal.main_arg6)
      ∧ m' ((c.tc : Thread Cert.ReferenceArgmaxIdeal.nD Cert.ReferenceArgmaxIdeal.τ).loc Cert.ReferenceArgmaxIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceArgmaxIdeal.defs (F := Ideal)) (onTc (τ := Cert.ReferenceArgmaxIdeal.τ) (Cert.ReferenceArgmaxIdeal.main (F := Ideal))) ⟨m', fun _ => 0, g'⟩ (fun r => ∀ c : Dev Cert.ReferenceArgmaxIdeal.nD,
          r.2.mem ((c.tc : Thread Cert.ReferenceArgmaxIdeal.nD Cert.ReferenceArgmaxIdeal.τ).loc Cert.ReferenceArgmaxIdeal.main_v62) = v0 c
          ∧ r.2.mem ((c.tc : Thread Cert.ReferenceArgmaxIdeal.nD Cert.ReferenceArgmaxIdeal.τ).loc Cert.ReferenceArgmaxIdeal.main_arg0) = m' ((c.tc : Thread Cert.ReferenceArgmaxIdeal.nD Cert.ReferenceArgmaxIdeal.τ).loc Cert.ReferenceArgmaxIdeal.main_arg0)
          ∧ r.2.mem ((c.tc : Thread Cert.ReferenceArgmaxIdeal.nD Cert.ReferenceArgmaxIdeal.τ).loc Cert.ReferenceArgmaxIdeal.main_arg1) = m' ((c.tc : Thread Cert.ReferenceArgmaxIdeal.nD Cert.ReferenceArgmaxIdeal.τ).loc Cert.ReferenceArgmaxIdeal.main_arg1)
          ∧ r.2.mem ((c.tc : Thread Cert.ReferenceArgmaxIdeal.nD Cert.ReferenceArgmaxIdeal.τ).loc Cert.ReferenceArgmaxIdeal.main_arg2) = m' ((c.tc : Thread Cert.ReferenceArgmaxIdeal.nD Cert.ReferenceArgmaxIdeal.τ).loc Cert.ReferenceArgmaxIdeal.main_arg2)
          ∧ r.2.mem ((c.tc : Thread Cert.ReferenceArgmaxIdeal.nD Cert.ReferenceArgmaxIdeal.τ).loc Cert.ReferenceArgmaxIdeal.main_arg3) = m' ((c.tc : Thread Cert.ReferenceArgmaxIdeal.nD Cert.ReferenceArgmaxIdeal.τ).loc Cert.ReferenceArgmaxIdeal.main_arg3)
          ∧ r.2.mem ((c.tc : Thread Cert.ReferenceArgmaxIdeal.nD Cert.ReferenceArgmaxIdeal.τ).loc Cert.ReferenceArgmaxIdeal.main_arg4) = m' ((c.tc : Thread Cert.ReferenceArgmaxIdeal.nD Cert.ReferenceArgmaxIdeal.τ).loc Cert.ReferenceArgmaxIdeal.main_arg4)
          ∧ r.2.mem ((c.tc : Thread Cert.ReferenceArgmaxIdeal.nD Cert.ReferenceArgmaxIdeal.τ).loc Cert.ReferenceArgmaxIdeal.main_arg5) = m' ((c.tc : Thread Cert.ReferenceArgmaxIdeal.nD Cert.ReferenceArgmaxIdeal.τ).loc Cert.ReferenceArgmaxIdeal.main_arg5)
          ∧ r.2.mem ((c.tc : Thread Cert.ReferenceArgmaxIdeal.nD Cert.ReferenceArgmaxIdeal.τ).loc Cert.ReferenceArgmaxIdeal.main_arg6) = m' ((c.tc : Thread Cert.ReferenceArgmaxIdeal.nD Cert.ReferenceArgmaxIdeal.τ).loc Cert.ReferenceArgmaxIdeal.main_arg6)
          ∧ r.2.mem ((c.tc : Thread Cert.ReferenceArgmaxIdeal.nD Cert.ReferenceArgmaxIdeal.τ).loc Cert.ReferenceArgmaxIdeal.main_arg7) = m' ((c.tc : Thread Cert.ReferenceArgmaxIdeal.nD Cert.ReferenceArgmaxIdeal.τ).loc Cert.ReferenceArgmaxIdeal.main_arg7))

def Claim : Prop :=
  ∃ (hKernel : Cert.Kernel.Facts) (hKernelIdeal : Cert.KernelIdeal.Facts) (hReferenceIdeal : Cert.ReferenceIdeal.Facts) (hReferenceArgmaxIdeal : Cert.ReferenceArgmaxIdeal.Facts) (hPre_all_unmasked : Cert.Pre_all_unmasked.Facts) (hPre_unmasked_above_minus_infinity : Cert.Pre_unmasked_above_minus_infinity.Facts),
    quiescent_Kernel (hKernel := hKernel)
    ∧ quiescent_KernelIdeal (hKernelIdeal := hKernelIdeal)
    ∧ quiescent_KernelIdeal_pre_all_unmasked (hKernelIdeal := hKernelIdeal) (hPre_all_unmasked := hPre_all_unmasked)
    ∧ quiescent_KernelIdeal_pre_unmasked_above_minus_infinity (hKernelIdeal := hKernelIdeal) (hPre_unmasked_above_minus_infinity := hPre_unmasked_above_minus_infinity)
    ∧ quiescent_ReferenceIdeal (hReferenceIdeal := hReferenceIdeal)
    ∧ quiescent_ReferenceIdeal_pre_all_unmasked (hReferenceIdeal := hReferenceIdeal) (hPre_all_unmasked := hPre_all_unmasked)
    ∧ quiescent_ReferenceArgmaxIdeal (hReferenceArgmaxIdeal := hReferenceArgmaxIdeal)
    ∧ quiescent_ReferenceArgmaxIdeal_pre_unmasked_above_minus_infinity (hReferenceArgmaxIdeal := hReferenceArgmaxIdeal) (hPre_unmasked_above_minus_infinity := hPre_unmasked_above_minus_infinity)
    ∧ preserves_Kernel_KernelIdeal
    ∧ algebraic_KernelIdeal_ReferenceIdeal_pre_all_unmasked (hKernelIdeal := hKernelIdeal) (hReferenceIdeal := hReferenceIdeal) (hPre_all_unmasked := hPre_all_unmasked)
    ∧ algebraic_KernelIdeal_ReferenceArgmaxIdeal_pre_unmasked_above_minus_infinity (hKernelIdeal := hKernelIdeal) (hReferenceArgmaxIdeal := hReferenceArgmaxIdeal) (hPre_unmasked_above_minus_infinity := hPre_unmasked_above_minus_infinity)
-- ==== Pre_all_unmasked.lean ====
abbrev S8x16x256 : Shape := ⟨3, ![8, 16, 256]⟩
abbrev S8x16x2 : Shape := ⟨3, ![8, 16, 2]⟩
abbrev S8x2048x256 : Shape := ⟨3, ![8, 2048, 256]⟩
abbrev S8x2048 : Shape := ⟨2, ![8, 2048]⟩
abbrev S768x1152 : Shape := ⟨2, ![768, 1152]⟩
abbrev S1152 : Shape := ⟨1, ![1152]⟩
abbrev S1152x256 : Shape := ⟨2, ![1152, 256]⟩
abbrev S256 : Shape := ⟨1, ![256]⟩
abbrev S_ : Shape := ⟨0, ![]⟩

class Facts : Prop where
  reducesTo_S8x2048_S_d0_1 : S8x2048.ReducesTo [0, 1] S_
  h_S_ : 0 < S_.numel

variable [Facts]

def fn {F : FTy → Type} [FloatOps F] (main_arg0 : FVec F S8x16x256 .f32) (main_arg1 : IVec S8x16x2 32) (main_arg2 : FVec F S8x2048x256 .f32) (main_arg3 : IVec S8x2048 1) (main_arg4 : FVec F S768x1152 .f32) (main_arg5 : FVec F S1152 .f32) (main_arg6 : FVec F S1152x256 .f32) (main_arg7 : FVec F S256 .f32) : IVec S_ 1 :=
  let main_c : IVec S_ 1 := constantI S_ 1 1#1
  let main_v0 : IVec S_ 1 := (fun x v => Host.reduce IntOp.andi x v reducesTo_S8x2048_S_d0_1 h_S_) main_arg3 main_c
  main_v0
-- ==== Pre_unmasked_above_minus_infinity.lean ====
abbrev S8x16x256 : Shape := ⟨3, ![8, 16, 256]⟩
abbrev S8x16x2 : Shape := ⟨3, ![8, 16, 2]⟩
abbrev S8x2048x256 : Shape := ⟨3, ![8, 2048, 256]⟩
abbrev S8x2048 : Shape := ⟨2, ![8, 2048]⟩
abbrev S768x1152 : Shape := ⟨2, ![768, 1152]⟩
abbrev S1152 : Shape := ⟨1, ![1152]⟩
abbrev S1152x256 : Shape := ⟨2, ![1152, 256]⟩
abbrev S256 : Shape := ⟨1, ![256]⟩
abbrev S_ : Shape := ⟨0, ![]⟩

class Facts : Prop where
  reducesTo_S8x2048_S_d0_1 : S8x2048.ReducesTo [0, 1] S_
  h_S_ : 0 < S_.numel
  bcast_S_S8x2048x256 : S_.BroadcastsInDim S8x2048x256 (![] : Fin 0 → Fin S8x2048x256.rank)
  reducesTo_S8x2048x256_S_d0_1_2 : S8x2048x256.ReducesTo [0, 1, 2] S_

variable [Facts]

def fn {F : FTy → Type} [FloatOps F] (main_arg0 : FVec F S8x16x256 .f32) (main_arg1 : IVec S8x16x2 32) (main_arg2 : FVec F S8x2048x256 .f32) (main_arg3 : IVec S8x2048 1) (main_arg4 : FVec F S768x1152 .f32) (main_arg5 : FVec F S1152 .f32) (main_arg6 : FVec F S1152x256 .f32) (main_arg7 : FVec F S256 .f32) : IVec S_ 1 :=
  let main_c : IVec S_ 1 := constantI S_ 1 1#1
  let main_v0 : IVec S_ 1 := (fun x v => Host.reduce IntOp.andi x v reducesTo_S8x2048_S_d0_1 h_S_) main_arg3 main_c
  let main_cst : FVec F S_ .f32 := constant S_ .f32 0xFF800000#32
  let main_v1 : FVec F S8x2048x256 .f32 := broadcastInDim S8x2048x256 ![] bcast_S_S8x2048x256 main_cst
  let main_v2 : IVec S8x2048x256 1 := cmpf .ogt main_arg2 main_v1
  let main_c_0 : IVec S_ 1 := constantI S_ 1 1#1
  let main_v3 : IVec S_ 1 := (fun x v => Host.reduce IntOp.andi x v reducesTo_S8x2048x256_S_d0_1_2 h_S_) main_v2 main_c_0
  let main_v4 : IVec S_ 1 := andi main_v0 main_v3
  main_v4
-- ==== Kernel.lean ====
abbrev S8x16x256 : Shape := ⟨3, ![8, 16, 256]⟩
abbrev S8x16x2 : Shape := ⟨3, ![8, 16, 2]⟩
abbrev S8x2048x256 : Shape := ⟨3, ![8, 2048, 256]⟩
abbrev S8x2048 : Shape := ⟨2, ![8, 2048]⟩
abbrev S768x1152 : Shape := ⟨2, ![768, 1152]⟩
abbrev S1152 : Shape := ⟨1, ![1152]⟩
abbrev S1152x256 : Shape := ⟨2, ![1152, 256]⟩
abbrev S256 : Shape := ⟨1, ![256]⟩
abbrev S256x16 : Shape := ⟨2, ![256, 16]⟩
abbrev S8x16x1 : Shape := ⟨3, ![8, 16, 1]⟩
abbrev S8x16 : Shape := ⟨2, ![8, 16]⟩
abbrev S8x32 : Shape := ⟨2, ![8, 32]⟩
abbrev S8x1x16 : Shape := ⟨3, ![8, 1, 16]⟩
abbrev S8x16x16 : Shape := ⟨3, ![8, 16, 16]⟩
abbrev S8x256x1 : Shape := ⟨3, ![8, 256, 1]⟩
abbrev S8x1x32 : Shape := ⟨3, ![8, 1, 32]⟩
abbrev S8x32x256 : Shape := ⟨3, ![8, 32, 256]⟩
abbrev S256x1152 : Shape := ⟨2, ![256, 1152]⟩
abbrev S1x1152 : Shape := ⟨2, ![1, 1152]⟩
abbrev S1x256 : Shape := ⟨2, ![1, 256]⟩
abbrev S8x256x256 : Shape := ⟨3, ![8, 256, 256]⟩
abbrev S1x2048x256 : Shape := ⟨3, ![1, 2048, 256]⟩
abbrev S1x32x256 : Shape := ⟨3, ![1, 32, 256]⟩
abbrev S2048x256 : Shape := ⟨2, ![2048, 256]⟩
abbrev S2048x1 : Shape := ⟨2, ![2048, 1]⟩
abbrev S1x1 : Shape := ⟨2, ![1, 1]⟩
abbrev S1x1x256 : Shape := ⟨3, ![1, 1, 256]⟩
abbrev S1x1x32 : Shape := ⟨3, ![1, 1, 32]⟩
abbrev S1x256x1 : Shape := ⟨3, ![1, 256, 1]⟩
abbrev S1x16x256 : Shape := ⟨3, ![1, 16, 256]⟩
abbrev S1x256x256 : Shape := ⟨3, ![1, 256, 256]⟩
abbrev S1x32 : Shape := ⟨2, ![1, 32]⟩
abbrev S256x1 : Shape := ⟨2, ![256, 1]⟩
abbrev S1x31 : Shape := ⟨2, ![1, 31]⟩
abbrev S256x31 : Shape := ⟨2, ![256, 31]⟩
abbrev S256x256 : Shape := ⟨2, ![256, 256]⟩
abbrev S16x256 : Shape := ⟨2, ![16, 256]⟩
abbrev S16x1152 : Shape := ⟨2, ![16, 1152]⟩

abbrev nBuf : Space → Nat
  | .hbm => 36
  | .vmem => 24
  | .smem => 1
  | _ => 0

abbrev bufTy : (tb : Table) → Fin (tcTables nBuf tb) → BufTy
  | .hbm, ⟨0, _⟩ => ⟨S8x16x256, .f32⟩
  | .hbm, ⟨1, _⟩ => ⟨S8x16x2, .i32⟩
  | .hbm, ⟨2, _⟩ => ⟨S8x2048x256, .f32⟩
  | .hbm, ⟨3, _⟩ => ⟨S8x2048, .i1⟩
  | .hbm, ⟨4, _⟩ => ⟨S768x1152, .f32⟩
  | .hbm, ⟨5, _⟩ => ⟨S1152, .f32⟩
  | .hbm, ⟨6, _⟩ => ⟨S1152x256, .f32⟩
  | .hbm, ⟨7, _⟩ => ⟨S256, .f32⟩
  | .hbm, ⟨8, _⟩ => ⟨S256x16, .f32⟩
  | .hbm, ⟨9, _⟩ => ⟨S256x16, .f32⟩
  | .hbm, ⟨10, _⟩ => ⟨S8x16x1, .i32⟩
  | .hbm, ⟨11, _⟩ => ⟨S8x16, .i32⟩
  | .hbm, ⟨12, _⟩ => ⟨S8x16x1, .i32⟩
  | .hbm, ⟨13, _⟩ => ⟨S8x16, .i32⟩
  | .hbm, ⟨14, _⟩ => ⟨S8x32, .i32⟩
  | .hbm, ⟨15, _⟩ => ⟨S8x32, .i32⟩
  | .hbm, ⟨16, _⟩ => ⟨S8x16x1, .i32⟩
  | .hbm, ⟨17, _⟩ => ⟨S8x1x16, .i32⟩
  | .hbm, ⟨18, _⟩ => ⟨S8x16x16, .i32⟩
  | .hbm, ⟨19, _⟩ => ⟨S8x16x16, .i32⟩
  | .hbm, ⟨20, _⟩ => ⟨S8x16x16, .i32⟩
  | .hbm, ⟨21, _⟩ => ⟨S8x16x1, .i32⟩
  | .hbm, ⟨22, _⟩ => ⟨S8x1x16, .i32⟩
  | .hbm, ⟨23, _⟩ => ⟨S8x16x16, .i32⟩
  | .hbm, ⟨24, _⟩ => ⟨S8x16x16, .i32⟩
  | .hbm, ⟨25, _⟩ => ⟨S8x16x16, .i32⟩
  | .hbm, ⟨26, _⟩ => ⟨S8x256x1, .i32⟩
  | .hbm, ⟨27, _⟩ => ⟨S8x256x1, .i32⟩
  | .hbm, ⟨28, _⟩ => ⟨S8x1x32, .i32⟩
  | .hbm, ⟨29, _⟩ => ⟨S8x32x256, .f32⟩
  | .hbm, ⟨30, _⟩ => ⟨S256x1152, .f32⟩
  | .hbm, ⟨31, _⟩ => ⟨S256x1152, .f32⟩
  | .hbm, ⟨32, _⟩ => ⟨S256x1152, .f32⟩
  | .hbm, ⟨33, _⟩ => ⟨S1x1152, .f32⟩
  | .hbm, ⟨34, _⟩ => ⟨S1x256, .f32⟩
  | .hbm, ⟨35, _⟩ => ⟨S8x256x256, .f32⟩
  | .local _ .vmem, ⟨0, _⟩ => ⟨S1x2048x256, .f32⟩
  | .local _ .vmem, ⟨1, _⟩ => ⟨S1x2048x256, .f32⟩
  | .local _ .vmem, ⟨2, _⟩ => ⟨S1x32x256, .f32⟩
  | .local _ .vmem, ⟨3, _⟩ => ⟨S1x32x256, .f32⟩
  | .local _ .vmem, ⟨4, _⟩ => ⟨S1x1x32, .i32⟩
  | .local _ .vmem, ⟨5, _⟩ => ⟨S1x1x32, .i32⟩
  | .local _ .vmem, ⟨6, _⟩ => ⟨S1x256x1, .i32⟩
  | .local _ .vmem, ⟨7, _⟩ => ⟨S1x256x1, .i32⟩
  | .local _ .vmem, ⟨8, _⟩ => ⟨S1x256x1, .i32⟩
  | .local _ .vmem, ⟨9, _⟩ => ⟨S1x256x1, .i32⟩
  | .local _ .vmem, ⟨10, _⟩ => ⟨S1x32x256, .f32⟩
  | .local _ .vmem, ⟨11, _⟩ => ⟨S1x32x256, .f32⟩
  | .local _ .vmem, ⟨12, _⟩ => ⟨S1x16x256, .f32⟩
  | .local _ .vmem, ⟨13, _⟩ => ⟨S1x16x256, .f32⟩
  | .local _ .vmem, ⟨14, _⟩ => ⟨S256x16, .f32⟩
  | .local _ .vmem, ⟨15, _⟩ => ⟨S256x16, .f32⟩
  | .local _ .vmem, ⟨16, _⟩ => ⟨S256x1152, .f32⟩
  | .local _ .vmem, ⟨17, _⟩ => ⟨S256x1152, .f32⟩
  | .local _ .vmem, ⟨18, _⟩ => ⟨S256x1152, .f32⟩
  | .local _ .vmem, ⟨19, _⟩ => ⟨S1x1152, .f32⟩
  | .local _ .vmem, ⟨20, _⟩ => ⟨S1152x256, .f32⟩
  | .local _ .vmem, ⟨21, _⟩ => ⟨S1x256, .f32⟩
  | .local _ .vmem, ⟨22, _⟩ => ⟨S1x256x256, .f32⟩
  | .local _ .vmem, ⟨23, _⟩ => ⟨S1x256x256, .f32⟩
  | .local _ .smem, ⟨0, _⟩ => ⟨S8x32, .i32⟩
  | _, _ => ⟨S8x16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_cst : Ref sig .tc := ⟨.hbm, 8, rfl⟩
abbrev main_call0_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_call0_v17 : Ref sig .tc := ⟨.hbm, 27, rfl⟩
abbrev main_call0_v18 : Ref sig .tc := ⟨.hbm, 28, rfl⟩
abbrev main_call0_v19 : Ref sig .tc := ⟨.hbm, 29, rfl⟩
abbrev main_call0_v20 : Ref sig .tc := ⟨.hbm, 30, rfl⟩
abbrev main_call0_v21 : Ref sig .tc := ⟨.hbm, 31, rfl⟩
abbrev main_call0_v22 : Ref sig .tc := ⟨.hbm, 32, rfl⟩
abbrev main_call0_v23 : Ref sig .tc := ⟨.hbm, 33, rfl⟩
abbrev main_call0_v24 : Ref sig .tc := ⟨.hbm, 34, rfl⟩
abbrev main_v0 : Ref sig .tc := ⟨.hbm, 35, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg11_0 : Ref sig .tc := ⟨.vmem, 20, rfl⟩
abbrev cc1_stg12_0 : Ref sig .tc := ⟨.vmem, 21, rfl⟩
abbrev cc1_stg13_0 : Ref sig .tc := ⟨.vmem, 22, rfl⟩
abbrev cc1_stg13_1 : Ref sig .tc := ⟨.vmem, 23, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem11_0 : DmaSem sig := 21
abbrev cc1_sem12_0 : DmaSem sig := 22
abbrev cc1_sem13_0 : DmaSem sig := 23
abbrev cc1_sem13_1 : DmaSem sig := 24

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let v3 : Index := Scalar.indexCast arg0
  let c0_2 : Index := 0#32
  ![v3.toNat, 0]
def k0_off2 (i : grid0.Coords) : Fin 2 → Nat :=
  let arg0 : BitVec 32 := BitVec.ofNat 32 (i 0).val
  let v5 : Index := Scalar.indexCast arg0
  let c1 : Index := 1#32
  ![v5.toNat, 1]
def k0_off3 (i : grid0.Coords) : Fin 2 → Nat :=
  let arg0 : BitVec 32 := BitVec.ofNat 32 (i 0).val
  let v22 : Index := Scalar.indexCast arg0
  let c2 : Index := 2#32
  ![v22.toNat, 2]
def k0_off4 (i : grid0.Coords) : Fin 2 → Nat :=
  let arg0 : BitVec 32 := BitVec.ofNat 32 (i 0).val
  let v39 : Index := Scalar.indexCast arg0
  let c3 : Index := 3#32
  ![v39.toNat, 3]
def k0_off5 (i : grid0.Coords) : Fin 2 → Nat :=
  let arg0 : BitVec 32 := BitVec.ofNat 32 (i 0).val
  let v56 : Index := Scalar.indexCast arg0
  let c4 : Index := 4#32
  ![v56.toNat, 4]
def k0_off6 (i : grid0.Coords) : Fin 2 → Nat :=
  let arg0 : BitVec 32 := BitVec.ofNat 32 (i 0).val
  let v73 : Index := Scalar.indexCast arg0
  let c5 : Index := 5#32
  ![v73.toNat, 5]
def k0_off7 (i : grid0.Coords) : Fin 2 → Nat :=
  let arg0 : BitVec 32 := BitVec.ofNat 32 (i 0).val
  let v90 : Index := Scalar.indexCast arg0
  let c6 : Index := 6#32
  ![v90.toNat, 6]
def k0_off8 (i : grid0.Coords) : Fin 2 → Nat :=
  let arg0 : BitVec 32 := BitVec.ofNat 32 (i 0).val
  let v107 : Index := Scalar.indexCast arg0
  let c7 : Index := 7#32
  ![v107.toNat, 7]
def k0_off9 (i : grid0.Coords) : Fin 2 → Nat :=
  let arg0 : BitVec 32 := BitVec.ofNat 32 (i 0).val
  let v124 : Index := Scalar.indexCast arg0
  let c8 : Index := 8#32
  ![v124.toNat, 8]
def k0_off10 (i : grid0.Coords) : Fin 2 → Nat :=
  let arg0 : BitVec 32 := BitVec.ofNat 32 (i 0).val
  let v141 : Index := Scalar.indexCast arg0
  let c9 : Index := 9#32
  ![v141.toNat, 9]
def k0_off11 (i : grid0.Coords) : Fin 2 → Nat :=
  let arg0 : BitVec 32 := BitVec.ofNat 32 (i 0).val
  let v158 : Index := Scalar.indexCast arg0
  let c10 : Index := 10#32
  ![v158.toNat, 10]
def k0_off12 (i : grid0.Coords) : Fin 2 → Nat :=
  let arg0 : BitVec 32 := BitVec.ofNat 32 (i 0).val
  let v175 : Index := Scalar.indexCast arg0
  let c11 : Index := 11#32
  ![v175.toNat, 11]
def k0_off13 (i : grid0.Coords) : Fin 2 → Nat :=
  let arg0 : BitVec 32 := BitVec.ofNat 32 (i 0).val
  let v192 : Index := Scalar.indexCast arg0
  let c12 : Index := 12#32
  ![v192.toNat, 12]
def k0_off14 (i : grid0.Coords) : Fin 2 → Nat :=
  let arg0 : BitVec 32 := BitVec.ofNat 32 (i 0).val
  let v209 : Index := Scalar.indexCast arg0
  let c13 : Index := 13#32
  ![v209.toNat, 13]
def k0_off15 (i : grid0.Coords) : Fin 2 → Nat :=
  let arg0 : BitVec 32 := BitVec.ofNat 32 (i 0).val
  let v226 : Index := Scalar.indexCast arg0
  let c14 : Index := 14#32
  ![v226.toNat, 14]
def k0_off16 (i : grid0.Coords) : Fin 2 → Nat :=
  let arg0 : BitVec 32 := BitVec.ofNat 32 (i 0).val
  let v243 : Index := Scalar.indexCast arg0
  let c15 : Index := 15#32
  ![v243.toNat, 15]
def k0_off17 (i : grid0.Coords) : Fin 2 → Nat :=
  let arg0 : BitVec 32 := BitVec.ofNat 32 (i 0).val
  let v260 : Index := Scalar.indexCast arg0
  let c16 : Index := 16#32
  ![v260.toNat, 16]
def k0_off18 (i : grid0.Coords) : Fin 2 → Nat :=
  let arg0 : BitVec 32 := BitVec.ofNat 32 (i 0).val
  let v277 : Index := Scalar.indexCast arg0
  let c17 : Index := 17#32
  ![v277.toNat, 17]
def k0_off19 (i : grid0.Coords) : Fin 2 → Nat :=
  let arg0 : BitVec 32 := BitVec.ofNat 32 (i 0).val
  let v294 : Index := Scalar.indexCast arg0
  let c18 : Index := 18#32
  ![v294.toNat, 18]
def k0_off20 (i : grid0.Coords) : Fin 2 → Nat :=
  let arg0 : BitVec 32 := BitVec.ofNat 32 (i 0).val
  let v311 : Index := Scalar.indexCast arg0
  let c19 : Index := 19#32
  ![v311.toNat, 19]
def k0_off21 (i : grid0.Coords) : Fin 2 → Nat :=
  let arg0 : BitVec 32 := BitVec.ofNat 32 (i 0).val
  let v328 : Index := Scalar.indexCast arg0
  let c20 : Index := 20#32
  ![v328.toNat, 20]
def k0_off22 (i : grid0.Coords) : Fin 2 → Nat :=
  let arg0 : BitVec 32 := BitVec.ofNat 32 (i 0).val
  let v345 : Index := Scalar.indexCast arg0
  let c21 : Index := 21#32
  ![v345.toNat, 21]
def k0_off23 (i : grid0.Coords) : Fin 2 → Nat :=
  let arg0 : BitVec 32 := BitVec.ofNat 32 (i 0).val
  let v362 : Index := Scalar.indexCast arg0
  let c22 : Index := 22#32
  ![v362.toNat, 22]
def k0_off24 (i : grid0.Coords) : Fin 2 → Nat :=
  let arg0 : BitVec 32 := BitVec.ofNat 32 (i 0).val
  let v379 : Index := Scalar.indexCast arg0
  let c23 : Index := 23#32
  ![v379.toNat, 23]
def k0_off25 (i : grid0.Coords) : Fin 2 → Nat :=
  let arg0 : BitVec 32 := BitVec.ofNat 32 (i 0).val
  let v396 : Index := Scalar.indexCast arg0
  let c24 : Index := 24#32
  ![v396.toNat, 24]
def k0_off26 (i : grid0.Coords) : Fin 2 → Nat :=
  let arg0 : BitVec 32 := BitVec.ofNat 32 (i 0).val
  let v413 : Index := Scalar.indexCast arg0
  let c25 : Index := 25#32
  ![v413.toNat, 25]
def k0_off27 (i : grid0.Coords) : Fin 2 → Nat :=
  let arg0 : BitVec 32 := BitVec.ofNat 32 (i 0).val
  let v430 : Index := Scalar.indexCast arg0
  let c26 : Index := 26#32
  ![v430.toNat, 26]
def k0_off28 (i : grid0.Coords) : Fin 2 → Nat :=
  let arg0 : BitVec 32 := BitVec.ofNat 32 (i 0).val
  let v447 : Index := Scalar.indexCast arg0
  let c27 : Index := 27#32
  ![v447.toNat, 27]
def k0_off29 (i : grid0.Coords) : Fin 2 → Nat :=
  let arg0 : BitVec 32 := BitVec.ofNat 32 (i 0).val
  let v464 : Index := Scalar.indexCast arg0
  let c28 : Index := 28#32
  ![v464.toNat, 28]
def k0_off30 (i : grid0.Coords) : Fin 2 → Nat :=
  let arg0 : BitVec 32 := BitVec.ofNat 32 (i 0).val
  let v481 : Index := Scalar.indexCast arg0
  let c29 : Index := 29#32
  ![v481.toNat, 29]
def k0_off31 (i : grid0.Coords) : Fin 2 → Nat :=
  let arg0 : BitVec 32 := BitVec.ofNat 32 (i 0).val
  let v498 : Index := Scalar.indexCast arg0
  let c30 : Index := 30#32
  ![v498.toNat, 30]
def k0_off32 (i : grid0.Coords) : Fin 2 → Nat :=
  let arg0 : BitVec 32 := BitVec.ofNat 32 (i 0).val
  let v515 : Index := Scalar.indexCast arg0
  let c31 : Index := 31#32
  ![v515.toNat, 31]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S8x32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x32 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x32x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x16x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S256x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x1152 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x1152 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x1152 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1152 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1152x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S1x256x256 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== ReferenceIdeal.lean ====
abbrev S8x16x256 : Shape := ⟨3, ![8, 16, 256]⟩
abbrev S8x16x2 : Shape := ⟨3, ![8, 16, 2]⟩
abbrev S8x2048x256 : Shape := ⟨3, ![8, 2048, 256]⟩
abbrev S8x2048 : Shape := ⟨2, ![8, 2048]⟩
abbrev S768x1152 : Shape := ⟨2, ![768, 1152]⟩
abbrev S1152 : Shape := ⟨1, ![1152]⟩
abbrev S1152x256 : Shape := ⟨2, ![1152, 256]⟩
abbrev S256 : Shape := ⟨1, ![256]⟩
abbrev S8x16x1x256 : Shape := ⟨4, ![8, 16, 1, 256]⟩
abbrev S8x16x16x256 : Shape := ⟨4, ![8, 16, 16, 256]⟩
abbrev S8x1x16x256 : Shape := ⟨4, ![8, 1, 16, 256]⟩
abbrev S8x16x1 : Shape := ⟨3, ![8, 16, 1]⟩
abbrev S8x16 : Shape := ⟨2, ![8, 16]⟩
abbrev S8x1x16 : Shape := ⟨3, ![8, 1, 16]⟩
abbrev S8x16x16 : Shape := ⟨3, ![8, 16, 16]⟩
abbrev S2048 : Shape := ⟨1, ![2048]⟩
abbrev S1x1x1x2048 : Shape := ⟨4, ![1, 1, 1, 2048]⟩
abbrev S8x16x16x1 : Shape := ⟨4, ![8, 16, 16, 1]⟩
abbrev S8x16x16x2048 : Shape := ⟨4, ![8, 16, 16, 2048]⟩
abbrev S8x1x1x2048 : Shape := ⟨4, ![8, 1, 1, 2048]⟩
abbrev S8x16x16x2048x1 : Shape := ⟨5, ![8, 16, 16, 2048, 1]⟩
abbrev S8x1x1x2048x256 : Shape := ⟨5, ![8, 1, 1, 2048, 256]⟩
abbrev S_ : Shape := ⟨0, ![]⟩
abbrev S8x16x16x2048x256 : Shape := ⟨5, ![8, 16, 16, 2048, 256]⟩
abbrev S8x16x16x768 : Shape := ⟨4, ![8, 16, 16, 768]⟩
abbrev S8x16x16x1152 : Shape := ⟨4, ![8, 16, 16, 1152]⟩
abbrev S1x1x1x1152 : Shape := ⟨4, ![1, 1, 1, 1152]⟩
abbrev S1x1x1x256 : Shape := ⟨4, ![1, 1, 1, 256]⟩
abbrev S8x256x256 : Shape := ⟨3, ![8, 256, 256]⟩

abbrev nBuf : Space → Nat
  | .hbm => 72
  | .vmem => 0
  | .smem => 0
  | _ => 0

abbrev bufTy : (tb : Table) → Fin (tcTables nBuf tb) → BufTy
  | .hbm, ⟨0, _⟩ => ⟨S8x16x256, .f32⟩
  | .hbm, ⟨1, _⟩ => ⟨S8x16x2, .i32⟩
  | .hbm, ⟨2, _⟩ => ⟨S8x2048x256, .f32⟩
  | .hbm, ⟨3, _⟩ => ⟨S8x2048, .i1⟩
  | .hbm, ⟨4, _⟩ => ⟨S768x1152, .f32⟩
  | .hbm, ⟨5, _⟩ => ⟨S1152, .f32⟩
  | .hbm, ⟨6, _⟩ => ⟨S1152x256, .f32⟩
  | .hbm, ⟨7, _⟩ => ⟨S256, .f32⟩
  | .hbm, ⟨8, _⟩ => ⟨S8x16x1x256, .f32⟩
  | .hbm, ⟨9, _⟩ => ⟨S8x16x16x256, .f32⟩
  | .hbm, ⟨10, _⟩ => ⟨S8x1x16x256, .f32⟩
  | .hbm, ⟨11, _⟩ => ⟨S8x16x16x256, .f32⟩
  | .hbm, ⟨12, _⟩ => ⟨S8x16x1, .i32⟩
  | .hbm, ⟨13, _⟩ => ⟨S8x16, .i32⟩
  | .hbm, ⟨14, _⟩ => ⟨S8x16x1, .i32⟩
  | .hbm, ⟨15, _⟩ => ⟨S8x16x1, .i32⟩
  | .hbm, ⟨16, _⟩ => ⟨S8x16, .i32⟩
  | .hbm, ⟨17, _⟩ => ⟨S8x16x1, .i32⟩
  | .hbm, ⟨18, _⟩ => ⟨S8x16x1, .i32⟩
  | .hbm, ⟨19, _⟩ => ⟨S8x16, .i32⟩
  | .hbm, ⟨20, _⟩ => ⟨S8x1x16, .i32⟩
  | .hbm, ⟨21, _⟩ => ⟨S8x16x1, .i32⟩
  | .hbm, ⟨22, _⟩ => ⟨S8x16, .i32⟩
  | .hbm, ⟨23, _⟩ => ⟨S8x1x16, .i32⟩
  | .hbm, ⟨24, _⟩ => ⟨S8x16x16, .i32⟩
  | .hbm, ⟨25, _⟩ => ⟨S8x16x16, .i32⟩
  | .hbm, ⟨26, _⟩ => ⟨S8x16x16, .i32⟩
  | .hbm, ⟨27, _⟩ => ⟨S8x16x16, .i32⟩
  | .hbm, ⟨28, _⟩ => ⟨S8x16x16, .i32⟩
  | .hbm, ⟨29, _⟩ => ⟨S8x16x16, .i32⟩
  | .hbm, ⟨30, _⟩ => ⟨S8x16x16, .i1⟩
  | .hbm, ⟨31, _⟩ => ⟨S2048, .i32⟩
  | .hbm, ⟨32, _⟩ => ⟨S1x1x1x2048, .i32⟩
  | .hbm, ⟨33, _⟩ => ⟨S8x16x16x1, .i32⟩
  | .hbm, ⟨34, _⟩ => ⟨S8x16x16x2048, .i32⟩
  | .hbm, ⟨35, _⟩ => ⟨S8x16x16x2048, .i32⟩
  | .hbm, ⟨36, _⟩ => ⟨S8x16x16x2048, .i1⟩
  | .hbm, ⟨37, _⟩ => ⟨S1x1x1x2048, .i32⟩
  | .hbm, ⟨38, _⟩ => ⟨S8x16x16x1, .i32⟩
  | .hbm, ⟨39, _⟩ => ⟨S8x16x16x2048, .i32⟩
  | .hbm, ⟨40, _⟩ => ⟨S8x16x16x2048, .i32⟩
  | .hbm, ⟨41, _⟩ => ⟨S8x16x16x2048, .i1⟩
  | .hbm, ⟨42, _⟩ => ⟨S8x16x16x2048, .i1⟩
  | .hbm, ⟨43, _⟩ => ⟨S8x1x1x2048, .i1⟩
  | .hbm, ⟨44, _⟩ => ⟨S8x16x16x2048, .i1⟩
  | .hbm, ⟨45, _⟩ => ⟨S8x16x16x2048, .i1⟩
  | .hbm, ⟨46, _⟩ => ⟨S8x16x16x2048x1, .i1⟩
  | .hbm, ⟨47, _⟩ => ⟨S8x1x1x2048x256, .f32⟩
  | .hbm, ⟨48, _⟩ => ⟨S_, .f32⟩
  | .hbm, ⟨49, _⟩ => ⟨S_, .f32⟩
  | .hbm, ⟨50, _⟩ => ⟨S8x16x16x2048x256, .i1⟩
  | .hbm, ⟨51, _⟩ => ⟨S8x16x16x2048x256, .f32⟩
  | .hbm, ⟨52, _⟩ => ⟨S8x16x16x2048x256, .f32⟩
  | .hbm, ⟨53, _⟩ => ⟨S8x16x16x2048x256, .f32⟩
  | .hbm, ⟨54, _⟩ => ⟨S_, .f32⟩
  | .hbm, ⟨55, _⟩ => ⟨S8x16x16x256, .f32⟩
  | .hbm, ⟨56, _⟩ => ⟨S8x16x16x1, .i1⟩
  | .hbm, ⟨57, _⟩ => ⟨S8x16x16x256, .i1⟩
  | .hbm, ⟨58, _⟩ => ⟨S8x16x16x256, .f32⟩
  | .hbm, ⟨59, _⟩ => ⟨S8x16x16x768, .f32⟩
  | .hbm, ⟨60, _⟩ => ⟨S8x16x16x1152, .f32⟩
  | .hbm, ⟨61, _⟩ => ⟨S1x1x1x1152, .f32⟩
  | .hbm, ⟨62, _⟩ => ⟨S8x16x16x1152, .f32⟩
  | .hbm, ⟨63, _⟩ => ⟨S8x16x16x1152, .f32⟩
  | .hbm, ⟨64, _⟩ => ⟨S_, .f32⟩
  | .hbm, ⟨65, _⟩ => ⟨S8x16x16x1152, .f32⟩
  | .hbm, ⟨66, _⟩ => ⟨S8x16x16x1152, .f32⟩
  | .hbm, ⟨67, _⟩ => ⟨S8x16x16x256, .f32⟩
  | .hbm, ⟨68, _⟩ => ⟨S1x1x1x256, .f32⟩
  | .hbm, ⟨69, _⟩ => ⟨S8x16x16x256, .f32⟩
  | .hbm, ⟨70, _⟩ => ⟨S8x16x16x256, .f32⟩
  | .hbm, ⟨71, _⟩ => ⟨S8x256x256, .f32⟩
  | _, _ => ⟨S8x16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_v40 : Ref sig .tc := ⟨.hbm, 53, rfl⟩
abbrev main_cst_0 : Ref sig .tc := ⟨.hbm, 54, rfl⟩
abbrev main_v41 : Ref sig .tc := ⟨.hbm, 55, rfl⟩
abbrev main_v42 : Ref sig .tc := ⟨.hbm, 56, rfl⟩
abbrev main_call1_v0 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_1 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩

abbrev nD : Nat := 1
abbrev τ : Topo := Topo.v7x

variable {F : FTy → Type} [FloatOps F]
-- ==== ReferenceArgmaxIdeal.lean ====
abbrev S8x16x256 : Shape := ⟨3, ![8, 16, 256]⟩
abbrev S8x16x2 : Shape := ⟨3, ![8, 16, 2]⟩
abbrev S8x2048x256 : Shape := ⟨3, ![8, 2048, 256]⟩
abbrev S8x2048 : Shape := ⟨2, ![8, 2048]⟩
abbrev S768x1152 : Shape := ⟨2, ![768, 1152]⟩
abbrev S1152 : Shape := ⟨1, ![1152]⟩
abbrev S1152x256 : Shape := ⟨2, ![1152, 256]⟩
abbrev S256 : Shape := ⟨1, ![256]⟩
abbrev S8x16x1x256 : Shape := ⟨4, ![8, 16, 1, 256]⟩
abbrev S8x16x16x256 : Shape := ⟨4, ![8, 16, 16, 256]⟩
abbrev S8x1x16x256 : Shape := ⟨4, ![8, 1, 16, 256]⟩
abbrev S8x16x1 : Shape := ⟨3, ![8, 16, 1]⟩
abbrev S8x16 : Shape := ⟨2, ![8, 16]⟩
abbrev S8x1x16 : Shape := ⟨3, ![8, 1, 16]⟩
abbrev S8x16x16 : Shape := ⟨3, ![8, 16, 16]⟩
abbrev S2048 : Shape := ⟨1, ![2048]⟩
abbrev S1x1x1x2048 : Shape := ⟨4, ![1, 1, 1, 2048]⟩
abbrev S8x16x16x1 : Shape := ⟨4, ![8, 16, 16, 1]⟩
abbrev S8x16x16x2048 : Shape := ⟨4, ![8, 16, 16, 2048]⟩
abbrev S8x1x1x2048 : Shape := ⟨4, ![8, 1, 1, 2048]⟩
abbrev S8x16x16x2048x1 : Shape := ⟨5, ![8, 16, 16, 2048, 1]⟩
abbrev S8x1x1x2048x256 : Shape := ⟨5, ![8, 1, 1, 2048, 256]⟩
abbrev S_ : Shape := ⟨0, ![]⟩
abbrev S8x16x16x2048x256 : Shape := ⟨5, ![8, 16, 16, 2048, 256]⟩
abbrev S8x16x16x1x256 : Shape := ⟨5, ![8, 16, 16, 1, 256]⟩
abbrev S8x16x16x1x256x1 : Shape := ⟨6, ![8, 16, 16, 1, 256, 1]⟩
abbrev S1 : Shape := ⟨1, ![1]⟩
abbrev S1x1x1x1x1x1 : Shape := ⟨6, ![1, 1, 1, 1, 1, 1]⟩
abbrev S8x16x16x768 : Shape := ⟨4, ![8, 16, 16, 768]⟩
abbrev S8x16x16x1152 : Shape := ⟨4, ![8, 16, 16, 1152]⟩
abbrev S1x1x1x1152 : Shape := ⟨4, ![1, 1, 1, 1152]⟩
abbrev S1x1x1x256 : Shape := ⟨4, ![1, 1, 1, 256]⟩
abbrev S8x256x256 : Shape := ⟨3, ![8, 256, 256]⟩

abbrev nBuf : Space → Nat
  | .hbm => 109
  | .vmem => 0
  | .smem => 0
  | _ => 0

abbrev bufTy : (tb : Table) → Fin (tcTables nBuf tb) → BufTy
  | .hbm, ⟨0, _⟩ => ⟨S8x16x256, .f32⟩
  | .hbm, ⟨1, _⟩ => ⟨S8x16x2, .i32⟩
  | .hbm, ⟨2, _⟩ => ⟨S8x2048x256, .f32⟩
  | .hbm, ⟨3, _⟩ => ⟨S8x2048, .i1⟩
  | .hbm, ⟨4, _⟩ => ⟨S768x1152, .f32⟩
  | .hbm, ⟨5, _⟩ => ⟨S1152, .f32⟩
  | .hbm, ⟨6, _⟩ => ⟨S1152x256, .f32⟩
  | .hbm, ⟨7, _⟩ => ⟨S256, .f32⟩
  | .hbm, ⟨8, _⟩ => ⟨S8x16x1x256, .f32⟩
  | .hbm, ⟨9, _⟩ => ⟨S8x16x16x256, .f32⟩
  | .hbm, ⟨10, _⟩ => ⟨S8x1x16x256, .f32⟩
  | .hbm, ⟨11, _⟩ => ⟨S8x16x16x256, .f32⟩
  | .hbm, ⟨12, _⟩ => ⟨S8x16x1, .i32⟩
  | .hbm, ⟨13, _⟩ => ⟨S8x16, .i32⟩
  | .hbm, ⟨14, _⟩ => ⟨S8x16x1, .i32⟩
  | .hbm, ⟨15, _⟩ => ⟨S8x16x1, .i32⟩
  | .hbm, ⟨16, _⟩ => ⟨S8x16, .i32⟩
  | .hbm, ⟨17, _⟩ => ⟨S8x16x1, .i32⟩
  | .hbm, ⟨18, _⟩ => ⟨S8x16x1, .i32⟩
  | .hbm, ⟨19, _⟩ => ⟨S8x16, .i32⟩
  | .hbm, ⟨20, _⟩ => ⟨S8x1x16, .i32⟩
  | .hbm, ⟨21, _⟩ => ⟨S8x16x1, .i32⟩
  | .hbm, ⟨22, _⟩ => ⟨S8x16, .i32⟩
  | .hbm, ⟨23, _⟩ => ⟨S8x1x16, .i32⟩
  | .hbm, ⟨24, _⟩ => ⟨S8x16x16, .i32⟩
  | .hbm, ⟨25, _⟩ => ⟨S8x16x16, .i32⟩
  | .hbm, ⟨26, _⟩ => ⟨S8x16x16, .i32⟩
  | .hbm, ⟨27, _⟩ => ⟨S8x16x16, .i32⟩
  | .hbm, ⟨28, _⟩ => ⟨S8x16x16, .i32⟩
  | .hbm, ⟨29, _⟩ => ⟨S8x16x16, .i32⟩
  | .hbm, ⟨30, _⟩ => ⟨S8x16x16, .i1⟩
  | .hbm, ⟨31, _⟩ => ⟨S2048, .i32⟩
  | .hbm, ⟨32, _⟩ => ⟨S1x1x1x2048, .i32⟩
  | .hbm, ⟨33, _⟩ => ⟨S8x16x16x1, .i32⟩
  | .hbm, ⟨34, _⟩ => ⟨S8x16x16x2048, .i32⟩
  | .hbm, ⟨35, _⟩ => ⟨S8x16x16x2048, .i32⟩
  | .hbm, ⟨36, _⟩ => ⟨S8x16x16x2048, .i1⟩
  | .hbm, ⟨37, _⟩ => ⟨S1x1x1x2048, .i32⟩
  | .hbm, ⟨38, _⟩ => ⟨S8x16x16x1, .i32⟩
  | .hbm, ⟨39, _⟩ => ⟨S8x16x16x2048, .i32⟩
  | .hbm, ⟨40, _⟩ => ⟨S8x16x16x2048, .i32⟩
  | .hbm, ⟨41, _⟩ => ⟨S8x16x16x2048, .i1⟩
  | .hbm, ⟨42, _⟩ => ⟨S8x16x16x2048, .i1⟩
  | .hbm, ⟨43, _⟩ => ⟨S8x1x1x2048, .i1⟩
  | .hbm, ⟨44, _⟩ => ⟨S8x16x16x2048, .i1⟩
  | .hbm, ⟨45, _⟩ => ⟨S8x16x16x2048, .i1⟩
  | .hbm, ⟨46, _⟩ => ⟨S8x16x16x2048x1, .i1⟩
  | .hbm, ⟨47, _⟩ => ⟨S8x1x1x2048x256, .f32⟩
  | .hbm, ⟨48, _⟩ => ⟨S_, .f32⟩
  | .hbm, ⟨49, _⟩ => ⟨S_, .f32⟩
  | .hbm, ⟨50, _⟩ => ⟨S8x16x16x2048x256, .i1⟩
  | .hbm, ⟨51, _⟩ => ⟨S8x16x16x2048x256, .f32⟩
  | .hbm, ⟨52, _⟩ => ⟨S8x16x16x2048x256, .f32⟩
  | .hbm, ⟨53, _⟩ => ⟨S8x16x16x2048x256, .f32⟩
  | .hbm, ⟨54, _⟩ => ⟨S8x16x16x2048x256, .i32⟩
  | .hbm, ⟨55, _⟩ => ⟨S_, .f32⟩
  | .hbm, ⟨56, _⟩ => ⟨S_, .i32⟩
  | .hbm, ⟨57, _⟩ => ⟨S8x16x16x256, .f32⟩
  | .hbm, ⟨58, _⟩ => ⟨S8x16x16x256, .i32⟩
  | .hbm, ⟨59, _⟩ => ⟨S8x1x1x2048x256, .f32⟩
  | .hbm, ⟨60, _⟩ => ⟨S8x16x16x2048x256, .f32⟩
  | .hbm, ⟨61, _⟩ => ⟨S8x16x16x1x256, .i32⟩
  | .hbm, ⟨62, _⟩ => ⟨S_, .i32⟩
  | .hbm, ⟨63, _⟩ => ⟨S8x16x16x1x256, .i32⟩
  | .hbm, ⟨64, _⟩ => ⟨S8x16x16x1x256, .i1⟩
  | .hbm, ⟨65, _⟩ => ⟨S_, .i32⟩
  | .hbm, ⟨66, _⟩ => ⟨S8x16x16x1x256, .i32⟩
  | .hbm, ⟨67, _⟩ => ⟨S8x16x16x1x256, .i32⟩
  | .hbm, ⟨68, _⟩ => ⟨S8x16x16x1x256, .i32⟩
  | .hbm, ⟨69, _⟩ => ⟨S8x16x16x1x256x1, .i32⟩
  | .hbm, ⟨70, _⟩ => ⟨S1, .i32⟩
  | .hbm, ⟨71, _⟩ => ⟨S_, .i32⟩
  | .hbm, ⟨72, _⟩ => ⟨S8x16x16x1x256x1, .i32⟩
  | .hbm, ⟨73, _⟩ => ⟨S8x16x16x1x256x1, .i1⟩
  | .hbm, ⟨74, _⟩ => ⟨S1x1x1x1x1x1, .i32⟩
  | .hbm, ⟨75, _⟩ => ⟨S8x16x16x1x256x1, .i32⟩
  | .hbm, ⟨76, _⟩ => ⟨S8x16x16x1x256x1, .i1⟩
  | .hbm, ⟨77, _⟩ => ⟨S8x16x16x1x256x1, .i1⟩
  | .hbm, ⟨78, _⟩ => ⟨S_, .i1⟩
  | .hbm, ⟨79, _⟩ => ⟨S8x16x16x1x256, .i1⟩
  | .hbm, ⟨80, _⟩ => ⟨S8x16x16x1x256, .f32⟩
  | .hbm, ⟨81, _⟩ => ⟨S_, .f32⟩
  | .hbm, ⟨82, _⟩ => ⟨S8x16x16x1x256, .f32⟩
  | .hbm, ⟨83, _⟩ => ⟨S8x16x16x1x256, .f32⟩
  | .hbm, ⟨84, _⟩ => ⟨S8x16x16x256, .f32⟩
  | .hbm, ⟨85, _⟩ => ⟨S_, .i1⟩
  | .hbm, ⟨86, _⟩ => ⟨S8x16x16, .i1⟩
  | .hbm, ⟨87, _⟩ => ⟨S8x16x16x1, .i1⟩
  | .hbm, ⟨88, _⟩ => ⟨S_, .f32⟩
  | .hbm, ⟨89, _⟩ => ⟨S_, .f32⟩
  | .hbm, ⟨90, _⟩ => ⟨S8x16x16x256, .i1⟩
  | .hbm, ⟨91, _⟩ => ⟨S8x16x16x256, .f32⟩
  | .hbm, ⟨92, _⟩ => ⟨S8x16x16x256, .f32⟩
  | .hbm, ⟨93, _⟩ => ⟨S8x16x16x1, .i1⟩
  | .hbm, ⟨94, _⟩ => ⟨S8x16x16x256, .i1⟩
  | .hbm, ⟨95, _⟩ => ⟨S8x16x16x256, .f32⟩
  | .hbm, ⟨96, _⟩ => ⟨S8x16x16x768, .f32⟩
  | .hbm, ⟨97, _⟩ => ⟨S8x16x16x1152, .f32⟩
  | .hbm, ⟨98, _⟩ => ⟨S1x1x1x1152, .f32⟩
  | .hbm, ⟨99, _⟩ => ⟨S8x16x16x1152, .f32⟩
  | .hbm, ⟨100, _⟩ => ⟨S8x16x16x1152, .f32⟩
  | .hbm, ⟨101, _⟩ => ⟨S_, .f32⟩
  | .hbm, ⟨102, _⟩ => ⟨S8x16x16x1152, .f32⟩
  | .hbm, ⟨103, _⟩ => ⟨S8x16x16x1152, .f32⟩
  | .hbm, ⟨104, _⟩ => ⟨S8x16x16x256, .f32⟩
  | .hbm, ⟨105, _⟩ => ⟨S1x1x1x256, .f32⟩
  | .hbm, ⟨106, _⟩ => ⟨S8x16x16x256, .f32⟩
  | .hbm, ⟨107, _⟩ => ⟨S8x16x16x256, .f32⟩
  | .hbm, ⟨108, _⟩ => ⟨S8x256x256, .f32⟩
  | _, _ => ⟨S8x16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_v40 : Ref sig .tc := ⟨.hbm, 53, rfl⟩
abbrev main_call1_v0 : Ref sig .tc := ⟨.hbm, 54, rfl⟩
abbrev main_call1_cst : Ref sig .tc := ⟨.hbm, 55, rfl⟩
abbrev main_call1_c : Ref sig .tc := ⟨.hbm, 56, rfl⟩
abbrev main_call1_v1_0 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_c_1 : Ref sig .tc := ⟨.hbm, 70, rfl⟩
abbrev main_call2_c_2 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_3 : Ref sig .tc := ⟨.hbm, 78, rfl⟩
abbrev main_call2_v12 : Ref sig .tc := ⟨.hbm, 79, rfl⟩
abbrev main_call2_v13 : Ref sig .tc := ⟨.hbm, 80, rfl⟩
abbrev main_call2_cst : Ref sig .tc := ⟨.hbm, 81, rfl⟩
abbrev main_call2_v14 : Ref sig .tc := ⟨.hbm, 82, rfl⟩
abbrev main_v45 : Ref sig .tc := ⟨.hbm, 83, rfl⟩
abbrev main_v46 : Ref sig .tc := ⟨.hbm, 84, rfl⟩
abbrev main_c : Ref sig .tc := ⟨.hbm, 85, rfl⟩
abbrev main_v47 : Ref sig .tc := ⟨.hbm, 86, rfl⟩
abbrev main_v48 : Ref sig .tc := ⟨.hbm, 87, rfl⟩
abbrev main_cst_0 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_v49 : Ref sig .tc := ⟨.hbm, 92, rfl⟩
abbrev main_v50 : Ref sig .tc := ⟨.hbm, 93, rfl⟩
abbrev main_call4_v0 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_call5_cst : Ref sig .tc := ⟨.hbm, 101, rfl⟩
abbrev main_call5_v0 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩

abbrev nD : Nat := 1
abbrev τ : Topo := Topo.v7x

variable {F : FTy → Type} [FloatOps F]
-- ==== Proof.KernelRun.lean ====
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every execution ends with the result array holding what the second call's write-backs leave, the arguments as they
    were and every semaphore at zero. -/
theorem run : θ_run defs (onTc (τ := τ) (main (F := F))) ⟨m, fun _ => 0, ρ⟩ (fun r => (∀ c : Dev nD,
      r.2.mem ((c.tc : Thread nD τ).loc main_v0) = W4 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨h c _ (mem_uc main_v0 (by decide)), (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩), funext fun g => hz g (.inr (no_unscoped g.2))⟩)

end Cert.KernelIdeal.Run
-- ==== Proof.Spans.lean ====
module

public import proofs.«01_k».proof.KernelIdeal
public import Idealize.ShloMosaic.Lib.Pointwise
public import Idealize.ShloMosaic.Lib.SortFacts
public import Idealize.ShloMosaic.Lib.WordCmp

@[expose] public section

set_option maxRecDepth 16384

noncomputable section

namespace Cert.Spans

open Idealize.ShloMosaic

/-- The f32 word of minus infinity, read as an extended real. -/
abbrev negInf : EReal := Ideal.ofBits FTy.f32 0xFF800000#32

theorem negInf_eq : negInf = ⊥ := by simp [negInf, Ideal.ofBits, Ideal.ieee]

/-- The comparison word of an interval test selects between a value and minus infinity. -/
theorem sel_le (p q : Bool) (x y : EReal) :
    Scalar.select (IntOp.andi (BitVec.ofBool p) (BitVec.ofBool q)) x negInf ≤ y ↔ (p = true → q = true → x ≤ y) := by
  rw [negInf_eq]
  cases p <;> cases q <;> simp [Scalar.select, IntOp.andi]

theorem sel_ge_lt_le (a b c d : BitVec 32) (x y : EReal) :
    Scalar.select (IntOp.andi (IntOp.cmpi .sge a b) (IntOp.cmpi .slt c d)) x negInf ≤ y
      ↔ (b.toInt ≤ a.toInt → c.toInt < d.toInt → x ≤ y) := by
  rw [WordCmp.cmpi_sge_eq, WordCmp.cmpi_slt_eq, sel_le]
  simp only [decide_eq_true_eq]

theorem sel_ge_le_le (a b c d : BitVec 32) (x y : EReal) :
    Scalar.select (IntOp.andi (IntOp.cmpi .sge a b) (IntOp.cmpi .sle c d)) x negInf ≤ y
      ↔ (b.toInt ≤ a.toInt → c.toInt ≤ d.toInt → x ≤ y) := by
  rw [WordCmp.cmpi_sge_eq, WordCmp.cmpi_sle_eq, sel_le]
  simp only [decide_eq_true_eq]

/-- The maximum of the values at the positions from lo up to, not including, hi. -/
def span (lo hi : BitVec 32) (tok : Fin 2048 → EReal) : EReal :=
  Finset.fold max negInf
    (fun t : Fin 2048 => Scalar.select (IntOp.andi (IntOp.cmpi .sge (BitVec.ofNat 32 ↑t) lo) (IntOp.cmpi .slt (BitVec.ofNat 32 ↑t) hi))
      (tok t) negInf) Finset.univ

theorem span_le (lo hi : BitVec 32) (tok : Fin 2048 → EReal) (y : EReal) :
    span lo hi tok ≤ y ↔ ∀ t : Fin 2048, lo.toInt ≤ (BitVec.ofNat 32 ↑t).toInt → (BitVec.ofNat 32 ↑t).toInt < hi.toInt → tok t ≤ y := by
  unfold span
  rw [Finset.fold_max_le]
  simp only [sel_ge_lt_le, Finset.mem_univ, true_implies]
  exact ⟨fun h => h.2, fun h => ⟨by rw [negInf_eq]; exact bot_le, h⟩⟩

/-- A running maximum from minus infinity over the first n values. -/
def running (f : ℕ → EReal) : ℕ → EReal
  | 0 => negInf
  | n + 1 => max (running f n) (f n)

theorem running_le (f : ℕ → EReal) (y : EReal) : ∀ n, running f n ≤ y ↔ ∀ k, k < n → f k ≤ y
  | 0 => by simp [running, negInf_eq]
  | n + 1 => by
    rw [running, max_le_iff, running_le f y n]
    constructor
    · rintro ⟨h1, h2⟩ k hk
      rcases Nat.lt_succ_iff_lt_or_eq.1 hk with h | rfl
      · exact h1 k h
      · exact h2
    · exact fun h => ⟨fun k hk => h k (by omega), h n (by omega)⟩

/-- Between a position where a table is at most v and a later one where it exceeds v there is a step across v. -/
theorem step_across (f : ℕ → ℤ) (v : ℤ) : ∀ n a, f a ≤ v → v < f (a + n) → ∃ k, a ≤ k ∧ k < a + n ∧ f k ≤ v ∧ v < f (k + 1)
  | 0, a, h1, h2 => by simp at h2; omega
  | n + 1, a, h1, h2 => by
    by_cases h : v < f (a + 1)
    · exact ⟨a, le_refl _, by omega, h1, h⟩
    · obtain ⟨k, hk1, hk2, hk3, hk4⟩ := step_across f v n (a + 1) (by omega) (by rw [show a + 1 + n = a + (n + 1) by omega]; exact h2)
      exact ⟨k, by omega, by omega, hk3, hk4⟩

/-- The maxima of the pieces between consecutive bounds that lie inside the span make up the maximum of the span, when
    both of its ends are among the bounds. -/
theorem running_span (B : Fin 32 → BitVec 32) (hB : ∀ i j, i ≤ j → (B i).toInt ≤ (B j).toInt) (lo hi : BitVec 32)
    (hlo : ∃ a, B a = lo) (hhi : ∃ c, B c = hi) (tok : Fin 2048 → EReal) :
    running (fun k => Scalar.select (IntOp.andi (IntOp.cmpi .sge (B (Fin.ofNat 32 k)) lo) (IntOp.cmpi .sle (B (Fin.ofNat 32 (k + 1))) hi))
      (span (B (Fin.ofNat 32 k)) (B (Fin.ofNat 32 (k + 1))) tok) negInf) 31 = span lo hi tok := by
  refine eq_of_forall_ge_iff fun y => ?_
  rw [running_le, span_le]
  simp only [sel_ge_le_le, span_le]
  constructor
  · intro h t h1 h2
    obtain ⟨a, rfl⟩ := hlo
    obtain ⟨c, rfl⟩ := hhi
    have hac : a < c := by
      by_contra hc
      have := hB c a (not_lt.1 hc)
      omega
    obtain ⟨k, hk1, hk2, hk3, hk4⟩ := step_across (fun n => (B (Fin.ofNat 32 n)).toInt) (BitVec.ofNat 32 ↑t).toInt (c.val - a.val) a.val
      (by simpa using h1) (by rw [show a.val + (c.val - a.val) = c.val by have := Fin.lt_def.1 hac; omega]; simpa using h2)
    have hc32 := c.isLt
    have hac' := Fin.lt_def.1 hac
    refine h k (by omega) (hB _ _ ?_) (hB _ _ ?_) t hk3 hk4
    · rw [Fin.le_def, Fin.val_ofNat, Nat.mod_eq_of_lt (by omega)]; exact hk1
    · rw [Fin.le_def, Fin.val_ofNat, Nat.mod_eq_of_lt (by omega)]; omega
  · intro h k _ h1 h2 t h3 h4
    exact h t (by omega) (by omega)

/-- The smaller of two words is one of them. -/
theorem minsi_mem (a b : BitVec 32) : IntOp.minsi a b = a ∨ IntOp.minsi a b = b := by
  unfold IntOp.minsi; split <;> simp

theorem maxsi_mem (a b : BitVec 32) : IntOp.maxsi a b = a ∨ IntOp.maxsi a b = b := by
  unfold IntOp.maxsi; split <;> simp

open Cert.KernelIdeal in
/-- Where the sorted row takes each of its entries from. -/
def src (x : S8x32.Idx → BitVec 32) (b : Fin 8) : Fin 32 → Fin 32 :=
  sortedFrom fun k k' => IntOp.cmpi .slt (x (ix2 b k)) (x (ix2 b k')) == 1#1

open Cert.KernelIdeal in
theorem sort_at (x : S8x32.Idx → BitVec 32) (b : Fin 8) (p : Fin 32) :
    Host.sort S8x32 1 comparator_i32_d1 x (ix2 b p) = x (ix2 b (src x b p)) := by
  have al : ∀ k : Fin 32, Shape.Idx.along (s := S8x32) (ix2 b p) 1 k = ix2 b k := fun k => by
    funext a
    match a with
    | ⟨0, _⟩ => rfl
    | ⟨1, _⟩ => rfl
  unfold Host.sort
  rw [dif_pos (by decide : 1 < S8x32.rank)]
  show x (Shape.Idx.along (s := S8x32) (ix2 b p) 1 (sortedFrom (fun k k' : Fin 32 =>
    comparator_i32_d1 (x (Shape.Idx.along (s := S8x32) (ix2 b p) 1 k)) (x (Shape.Idx.along (s := S8x32) (ix2 b p) 1 k')) == 1#1) p)) = _
  simp only [al]
  exact congrArg x (al _)

open Cert.KernelIdeal in
theorem sort_mono (x : S8x32.Idx → BitVec 32) (b : Fin 8) (p q : Fin 32) (h : p ≤ q) :
    (Host.sort S8x32 1 comparator_i32_d1 x (ix2 b p)).toInt ≤ (Host.sort S8x32 1 comparator_i32_d1 x (ix2 b q)).toInt := by
  rcases eq_or_lt_of_le h with rfl | h
  · exact le_refl _
  rw [sort_at, sort_at]
  have hR : ∀ k k' : Fin 32, (IntOp.cmpi .slt (x (ix2 b k)) (x (ix2 b k')) == 1#1) = decide ((x (ix2 b k)).toInt < (x (ix2 b k')).toInt) := fun k k' => by
    rw [WordCmp.cmpi_slt_eq]
    by_cases hh : (x (ix2 b k)).toInt < (x (ix2 b k')).toInt <;> simp [hh]
  have := sortedFrom_noInversion (fun k k' : Fin 32 => IntOp.cmpi .slt (x (ix2 b k)) (x (ix2 b k')) == 1#1)
    (fun k k' : Fin 32 => IntOp.cmpi .slt (x (ix2 b k)) (x (ix2 b k')) == 1#1)
    (fun a c => by simp only [hR, decide_eq_true_eq, decide_eq_false_iff_not]; omega) (fun _ _ h => h)
    (fun a c d => by simp only [hR, decide_eq_false_iff_not]; omega) p q h
  simp only [hR, decide_eq_false_iff_not] at this
  unfold src
  simp only [hR]
  omega

open Cert.KernelIdeal in
theorem sort_surj (x : S8x32.Idx → BitVec 32) (b : Fin 8) (k : Fin 32) :
    ∃ p, Host.sort S8x32 1 comparator_i32_d1 x (ix2 b p) = x (ix2 b k) := by
  obtain ⟨p, hp⟩ := sortedFrom_surjective (fun k k' : Fin 32 => IntOp.cmpi .slt (x (ix2 b k)) (x (ix2 b k')) == 1#1) k
  exact ⟨p, by rw [sort_at]; unfold src; rw [hp]⟩

/-- The head of pair p is word p / 16, the tail word p mod 16. -/
def hd (p : Fin 256) : Fin 16 := ⟨p.val / 16, by omega⟩
def tl (p : Fin 256) : Fin 16 := ⟨p.val % 16, by omega⟩

open Cert.KernelIdeal in
/-- Where the context of a pair starts and ends: the smaller of the two ends, the larger of the two starts. -/
def lo (X1 : S8x16x2.Idx → BitVec 32) (b : Fin 8) (p : Fin 256) : BitVec 32 := IntOp.minsi (X1 (ix3 b (hd p) 1)) (X1 (ix3 b (tl p) 1))

open Cert.KernelIdeal in
def hi (X1 : S8x16x2.Idx → BitVec 32) (b : Fin 8) (p : Fin 256) : BitVec 32 := IntOp.maxsi (X1 (ix3 b (hd p) 0)) (X1 (ix3 b (tl p) 0))

open Cert.KernelIdeal in
/-- The common value of the two programs at batch b, pair p and output feature n. -/
def answer (X0 : S8x16x256.Idx → EReal) (X1 : S8x16x2.Idx → BitVec 32) (X2 : S8x2048x256.Idx → EReal) (X4 : S768x1152.Idx → EReal)
    (X5 : S1152.Idx → EReal) (X6 : S1152x256.Idx → EReal) (X7 : S256.Idx → EReal) (b : Fin 8) (p n : Fin 256) : EReal :=
  ∑ k : Fin 1152, max
      (∑ h : Fin 256, X0 (ix3 b (hd p) h) * X4 (ix2 ⟨h.val, by omega⟩ k)
          + ∑ h : Fin 256, X0 (ix3 b (tl p) h) * X4 (ix2 ⟨256 + h.val, by omega⟩ k)
          + ∑ h : Fin 256, Scalar.select (IntOp.cmpi .slt (lo X1 b p) (hi X1 b p)) (span (lo X1 b p) (hi X1 b p) fun t => X2 (ix3 b t h))
              (X0 (ix3 b (hd p) h)) * X4 (ix2 ⟨512 + h.val, by omega⟩ k)
        + X5 (ix1 k)) 0 * X6 (ix2 k n)
    + X7 (ix1 n)

theorem sum_thirds (f : Fin 768 → EReal) : ∑ x, f x = ∑ h : Fin 256, f ⟨h.val, by omega⟩ + ∑ h : Fin 256, f ⟨256 + h.val, by omega⟩
    + ∑ h : Fin 256, f ⟨512 + h.val, by omega⟩ := by
  have h1 := Fin.sum_univ_add (a := 512) (b := 256) f
  have h2 := Fin.sum_univ_add (a := 256) (b := 256) fun i => f (Fin.castAdd 256 i)
  exact h1.trans (congrArg (· + _) h2)

theorem andi_one (x : BitVec 1) : IntOp.andi x 1#1 = x := by
  revert x; decide

theorem running_congr (f g : ℕ → EReal) : ∀ n, (∀ k, k < n → f k = g k) → running f n = running g n
  | 0, _ => rfl
  | n + 1, h => by rw [running, running, running_congr f g n fun k hk => h k (by omega), h n (by omega)]

/-- A row of a one-hot table picks one summand. -/
theorem sum_pick (w : Fin 16 → BitVec 32) (l0 : Fin 16) (hw : ∀ l, w l = if l0.val = l.val then 0x3F800000#32 else 0#32)
    (f : Fin 16 → EReal) : ∑ l, Ideal.ofBits FTy.f32 (w l) * f l = f l0 := by
  have h1 : Ideal.ofBits FTy.f32 0x3F800000#32 = 1 := Ideal.ofBits_one_f32
  have h0 : Ideal.ofBits FTy.f32 0#32 = 0 := Ideal.ofBits_zero_f32
  rw [Finset.sum_eq_single l0]
  · rw [hw, if_pos rfl, h1, one_mul]
  · intro l _ hl
    rw [hw, if_neg (fun e => hl (Fin.ext e.symm)), h0, zero_mul]
  · exact fun h => absurd (Finset.mem_univ _) h

open Cert.KernelIdeal in
/-- The row of starts followed by the row of ends, before it is sorted. -/
def ends (X1 : S8x16x2.Idx → BitVec 32) : S8x32.Idx → BitVec 32 := fun j =>
  if h : (j 1).val < 16 then X1 (ix3 (j 0 : Fin 8) ⟨(j 1).val, h⟩ 0)
  else X1 (ix3 (j 0 : Fin 8) ⟨(j 1).val - 16, by have := (j 1).isLt; change (j 1).val < 32 at this; omega⟩ 1)

end Cert.Spans
-- ==== Proof.Seg.lean ====
module

public import proofs.«01_k».proof.Proof.Gen.KernelIdeal.Frame
public import proofs.«01_k».proof.Proof.Spans
public import Idealize.ShloMosaic.Lib.Pipeline.ValueKit
public import Idealize.ShloMosaic.Lib.StableHlo.ReadAt
public import Idealize.ShloMosaic.Lib.Pointwise

@[expose] public section

set_option maxRecDepth 16384

noncomputable section

namespace Cert.KernelIdeal.Seg

open Cert.KernelIdeal Cert.KernelIdeal.Gen Cert.Spans
open Idealize.ShloMosaic Idealize.ShloMosaic.TcCoe
open Idealize.SL Idealize.SL.Sem

/-- One row of the first call's output block: the maximum of one piece between consecutive bounds; the last row holds
    minus infinity. -/
def row (X : S8x32.Idx → BitVec 32) (T : Fin 2048 → Fin 256 → EReal) (b : Fin 8) (k : Fin 32) (h : Fin 256) : EReal :=
  if k.val < 31 then span (X (ix2 b (Fin.ofNat 32 k.val))) (X (ix2 b (Fin.ofNat 32 (k.val + 1)))) (fun t => T t h) else negInf

theorem ld_word (X : S8x32.Idx → BitVec 32) (b : Fin 8) (n : ℕ) (h : 0 < S1x1.numel)
    (inb : ∀ a, (![(Scalar.indexCast (BitVec.ofNat 32 b.val)).toNat, n] : Fin 2 → ℕ) a + S1x1.size a ≤ S8x32.size a) :
    View.ld (e' := .i32) (Val := Elt Ideal) X (Rect.unit (s := S8x32) ![(Scalar.indexCast (BitVec.ofNat 32 b.val)).toNat, n] S1x1.size inb) (Shape.Idx.first h)
      = X (ix2 b (Fin.ofNat 32 n)) := by
  have hn : n < 32 := by have := inb 1; simp at this; omega
  have hb : (Scalar.indexCast (BitVec.ofNat 32 b.val)).toNat = b.val := by
    have : ∀ b : Fin 8, (Scalar.indexCast (BitVec.ofNat 32 b.val)).toNat = b.val := by decide +kernel
    exact this b
  unfold View.ld
  refine congrArg X ?_
  funext a
  apply Fin.ext
  match a with
  | ⟨0, _⟩ => simp [hb]
  | ⟨1, _⟩ => simp; omega

theorem close (X : S8x32.Idx → BitVec 32) (T : S1x2048x256.Idx → EReal) (b : Fin 8) (y : S1x32x256.Idx) (x : S1x1x256.Idx) (n : ℕ)
    (hn : n < 31) (h1 : (y 1).val = n) (h2 : (y 2).val = (x 2).val) :
    span (X (ix2 b (Fin.ofNat 32 n))) (X (ix2 b (Fin.ofNat 32 (n + 1)))) (fun t => T (ix3 0 t (x 2)))
      = row X (fun t h => T (ix3 0 t h)) b (y 1) (y 2) := by
  unfold row
  have e2 : (y 2 : Fin 256) = (x 2 : Fin 256) := Fin.ext h2
  rw [if_pos (by omega), h1, e2]

theorem close_last (X : S8x32.Idx → BitVec 32) (T : S1x2048x256.Idx → EReal) (b : Fin 8) (y : S1x32x256.Idx)
    (h1 : (y 1).val = 31) : negInf = row X (fun t h => T (ix3 0 t h)) b (y 1) (y 2) := by
  unfold row
  rw [if_neg (by omega)]

variable (V : (c : Dev nD) → (b : Ref sig .tc) → Buf (Elt Ideal) ((c.tc : Thread nD τ).loc b)) (c : Dev nD)

theorem span_congr (lo lo' hi hi' : BitVec 32) (tok tok' : Fin 2048 → EReal) (h1 : lo = lo') (h2 : hi = hi') (h3 : ∀ t, tok t = tok' t) :
    span lo hi tok = span lo' hi' tok' := by
  obtain rfl := h1
  obtain rfl := h2
  obtain rfl : tok = tok' := funext h3
  rfl

theorem word (t : Fin cfg0.N) (X : S8x32.Idx → BitVec 32) (b : Fin 8) (n : ℕ) (h : 0 < S1x1.numel)
    (inb : ∀ a, (![(Scalar.indexCast (BitVec.ofNat 32 b.val)).toNat, n] : Fin 2 → ℕ) a + S1x1.size a ≤ S8x32.size a) :
    View.readAt (Elt Ideal) (ms0_0 t).view
      (Rect.unit (s := S8x32) ![(Scalar.indexCast (BitVec.ofNat 32 b.val)).toNat, n] S1x1.size inb).toLoadRect
      ((hs0_0 t).unread X) (Shape.Idx.first h) = X (ix2 b (Fin.ofNat 32 n)) := by
  rw [View.readAt_eq_ld, Memref.IsWhole.read_unread]
  exact ld_word X b n h inb

theorem whole (t : Fin cfg0.N) (T : S1x2048x256.Idx → EReal) (inb) (j : S1x2048x256.Idx) :
    View.readAt (Elt Ideal) (ms0_1 t).view (Rect.unit (s := S1x2048x256) ![0, 0, 0] S1x2048x256.size inb).toLoadRect
      ((hs0_1 t).unread T) j = T j := by
  rw [View.readAt_eq_ld, Memref.IsWhole.read_unread]
  unfold View.ld
  refine congrArg T ?_
  funext a
  apply Fin.ext
  match a with
  | ⟨0, _⟩ => simp
  | ⟨1, _⟩ => simp
  | ⟨2, _⟩ => simp

theorem piece (t : Fin cfg0.N) (X : S8x32.Idx → BitVec 32) (T : S1x2048x256.Idx → EReal) (b : Fin 8) (y : S1x32x256.Idx)
    (x : S1x1x256.Idx) (n : ℕ) (hn : n < 31) (h1 : (y 1).val = n) (h2 : (y 2).val = (x 2).val) (h h' : 0 < S1x1.numel)
    (inb : ∀ a, (![(Scalar.indexCast (BitVec.ofNat 32 b.val)).toNat, n] : Fin 2 → ℕ) a + S1x1.size a ≤ S8x32.size a)
    (inb' : ∀ a, (![(Scalar.indexCast (BitVec.ofNat 32 b.val)).toNat, n + 1] : Fin 2 → ℕ) a + S1x1.size a ≤ S8x32.size a)
    (inbT) :
    span
      (View.readAt (Elt Ideal) (ms0_0 t).view
        (Rect.unit (s := S8x32) ![(Scalar.indexCast (BitVec.ofNat 32 b.val)).toNat, n] S1x1.size inb).toLoadRect
        ((hs0_0 t).unread X) (Shape.Idx.first h))
      (View.readAt (Elt Ideal) (ms0_0 t).view
        (Rect.unit (s := S8x32) ![(Scalar.indexCast (BitVec.ofNat 32 b.val)).toNat, n + 1] S1x1.size inb').toLoadRect
        ((hs0_0 t).unread X) (Shape.Idx.first h'))
      (fun s => View.readAt (Elt Ideal) (ms0_1 t).view (Rect.unit (s := S1x2048x256) ![0, 0, 0] S1x2048x256.size inbT).toLoadRect
        ((hs0_1 t).unread T) (ix3 0 s (x 2)))
    = row X (fun t h => T (ix3 0 t h)) b (y 1) (y 2) :=
  (span_congr _ _ _ _ _ _ (word t X b n h inb) (word t X b (n + 1) h' inb') fun s => whole t T inbT _).trans
    (close X T b y x n hn h1 h2)

theorem blk (t : Fin cfg0.N) (y : S1x32x256.Idx) :
    outsAt0 (F := Ideal) V c t y = row (iblk0 V c 0 t) (fun s h => iblk0 V c 1 t (ix3 0 s h)) (grid0.coords t 0) (y 1) (y 2) := by
  unfold outsAt0 out0_A_2
  rw [View.read_writes_junk_eq_canon]
  unfold kernelRun0_A
  sl_unfold_words
  generalize (grid0.coords t) = i
  generalize iblk0 V c 0 t = X
  generalize iblk0 V c 1 t = T
  canon_tiles x h
  case piece0 =>
    pointwise [k0_pay2]
    exact close_last _ _ _ _ (by omega)
  case piece31 =>
    pointwise [k0_pay3, k0_pay4]
    exact piece t X T (i 0) y x 0 (by omega) (by omega) (by omega) _ _ _ _ _
  case piece30 =>
    pointwise [k0_pay3, k0_pay5]
    exact piece t X T (i 0) y x 1 (by omega) (by omega) (by omega) _ _ _ _ _
  case piece29 =>
    pointwise [k0_pay3, k0_pay6]
    exact piece t X T (i 0) y x 2 (by omega) (by omega) (by omega) _ _ _ _ _
  case piece28 =>
    pointwise [k0_pay3, k0_pay7]
    exact piece t X T (i 0) y x 3 (by omega) (by omega) (by omega) _ _ _ _ _
  case piece27 =>
    pointwise [k0_pay3, k0_pay8, k0_pay9]
    exact piece t X T (i 0) y x 4 (by omega) (by omega) (by omega) _ _ _ _ _
  case piece26 =>
    pointwise [k0_pay3, k0_pay10]
    exact piece t X T (i 0) y x 5 (by omega) (by omega) (by omega) _ _ _ _ _
  case piece25 =>
    pointwise [k0_pay3, k0_pay11, k0_pay12]
    exact piece t X T (i 0) y x 6 (by omega) (by omega) (by omega) _ _ _ _ _
  case piece24 =>
    pointwise [k0_pay3, k0_pay13]
    exact piece t X T (i 0) y x 7 (by omega) (by omega) (by omega) _ _ _ _ _
  case piece23 =>
    pointwise [k0_pay3, k0_pay14]
    exact piece t X T (i 0) y x 8 (by omega) (by omega) (by omega) _ _ _ _ _
  case piece22 =>
    pointwise [k0_pay3, k0_pay15, k0_pay16]
    exact piece t X T (i 0) y x 9 (by omega) (by omega) (by omega) _ _ _ _ _
  case piece21 =>
    pointwise [k0_pay3, k0_pay17]
    exact piece t X T (i 0) y x 10 (by omega) (by omega) (by omega) _ _ _ _ _
  case piece20 =>
    pointwise [k0_pay3, k0_pay18, k0_pay19]
    exact piece t X T (i 0) y x 11 (by omega) (by omega) (by omega) _ _ _ _ _
  case piece19 =>
    pointwise [k0_pay3, k0_pay20]
    exact piece t X T (i 0) y x 12 (by omega) (by omega) (by omega) _ _ _ _ _
  case piece18 =>
    pointwise [k0_pay3, k0_pay21]
    exact piece t X T (i 0) y x 13 (by omega) (by omega) (by omega) _ _ _ _ _
  case piece17 =>
    pointwise [k0_pay3, k0_pay22]
    exact piece t X T (i 0) y x 14 (by omega) (by omega) (by omega) _ _ _ _ _
  case piece16 =>
    pointwise [k0_pay3, k0_pay23]
    exact piece t X T (i 0) y x 15 (by omega) (by omega) (by omega) _ _ _ _ _
  case piece15 =>
    pointwise [k0_pay3, k0_pay24, k0_pay25]
    exact piece t X T (i 0) y x 16 (by omega) (by omega) (by omega) _ _ _ _ _
  case piece14 =>
    pointwise [k0_pay3, k0_pay26]
    exact piece t X T (i 0) y x 17 (by omega) (by omega) (by omega) _ _ _ _ _
  case piece13 =>
    pointwise [k0_pay3, k0_pay27, k0_pay28]
    exact piece t X T (i 0) y x 18 (by omega) (by omega) (by omega) _ _ _ _ _
  case piece12 =>
    pointwise [k0_pay3, k0_pay29]
    exact piece t X T (i 0) y x 19 (by omega) (by omega) (by omega) _ _ _ _ _
  case piece11 =>
    pointwise [k0_pay3, k0_pay30]
    exact piece t X T (i 0) y x 20 (by omega) (by omega) (by omega) _ _ _ _ _
  case piece10 =>
    pointwise [k0_pay3, k0_pay31, k0_pay32]
    exact piece t X T (i 0) y x 21 (by omega) (by omega) (by omega) _ _ _ _ _
  case piece9 =>
    pointwise [k0_pay3, k0_pay33]
    exact piece t X T (i 0) y x 22 (by omega) (by omega) (by omega) _ _ _ _ _
  case piece8 =>
    pointwise [k0_pay3, k0_pay34, k0_pay35]
    exact piece t X T (i 0) y x 23 (by omega) (by omega) (by omega) _ _ _ _ _
  case piece7 =>
    pointwise [k0_pay3, k0_pay36]
    exact piece t X T (i 0) y x 24 (by omega) (by omega) (by omega) _ _ _ _ _
  case piece6 =>
    pointwise [k0_pay3, k0_pay37]
    exact piece t X T (i 0) y x 25 (by omega) (by omega) (by omega) _ _ _ _ _
  case piece5 =>
    pointwise [k0_pay3, k0_pay38]
    exact piece t X T (i 0) y x 26 (by omega) (by omega) (by omega) _ _ _ _ _
  case piece4 =>
    pointwise [k0_pay3, k0_pay39]
    exact piece t X T (i 0) y x 27 (by omega) (by omega) (by omega) _ _ _ _ _
  case piece3 =>
    pointwise [k0_pay3, k0_pay40, k0_pay41]
    exact piece t X T (i 0) y x 28 (by omega) (by omega) (by omega) _ _ _ _ _
  case piece2 =>
    pointwise [k0_pay3, k0_pay42]
    exact piece t X T (i 0) y x 29 (by omega) (by omega) (by omega) _ _ _ _ _
  case piece1 =>
    pointwise [k0_pay3, k0_pay43, k0_pay1]
    exact piece t X T (i 0) y x 30 (by omega) (by omega) (by omega) _ _ _ _ _

theorem idx : ∀ t : Fin cfg0.N, win0_0.index t = ![0, 0] ∧ win0_1.index t = ![t.val, 0, 0] ∧ win0_2.index t = ![t.val, 0, 0] :=
  (by decide +kernel : ∀ t : Fin grid0.N, _)

theorem coords_eq : ∀ t : Fin cfg0.N, (grid0.coords t 0).val = t.val :=
  (by decide +kernel : ∀ t : Fin grid0.N, _)

theorem blk0 (t : Fin cfg0.N) : iblk0 (F := Ideal) V c 0 t = V c main_call0_v5 := by
  blk_ext! [iblk0, idx t]

theorem blk1 (t : Fin cfg0.N) (b : Fin 8) (hb : b.val = t.val) (s : Fin 2048) (h : Fin 256) :
    iblk0 (F := Ideal) V c 1 t (ix3 0 s h) = V c main_arg2 (ix3 b s h) := by
  blk_ext! [iblk0, idx t]

theorem row_congr (X : S8x32.Idx → BitVec 32) (T T' : Fin 2048 → Fin 256 → EReal) (b b' : Fin 8) (k k' : Fin 32) (h h' : Fin 256)
    (hT : ∀ s h, T s h = T' s h) (hb : b.val = b'.val) (hk : k.val = k'.val) (hh : h.val = h'.val) :
    row X T b k h = row X T' b' k' h' := by
  obtain rfl := Fin.ext hb
  obtain rfl := Fin.ext hk
  obtain rfl := Fin.ext hh
  have : T = T' := funext fun s => funext fun h => hT s h
  rw [this]

/-- The first call's output array: a row per piece, at every batch. -/
theorem arr : (dat0 (F := Ideal) V c).arrAt 2 cfg0.N
    = fun i => row (V c main_call0_v5) (fun s h => V c main_arg2 (ix3 (i 0) s h)) (i 0) (i 1) (i 2) := by
  refine (dat0 V c).arrAt_eq_of_covers 2 _ (by decide +kernel) fun t hf y => ?_
  blk_simp
  rw [after0_2, blk, blk0]
  have y0 : (y 0).val < 1 := (y 0).isLt
  have e0 : ((win0_2.blk t).view.emb y 0).val = t.val := by blk_simp [idx t]
  have e1 : ((win0_2.blk t).view.emb y 1).val = (y 1).val := by blk_simp [idx t]
  have e2 : ((win0_2.blk t).view.emb y 2).val = (y 2).val := by blk_simp [idx t]
  exact row_congr _ _ _ _ _ _ _ _ _ (fun s h => blk1 V c t _ e0 s h) ((coords_eq t).trans e0.symm) e1.symm e2.symm

end Cert.KernelIdeal.Seg
-- ==== Proof.Ffn.lean ====
module

public import proofs.«01_k».proof.Proof.Gen.KernelIdeal.Frame
public import proofs.«01_k».proof.Proof.Spans
public import Idealize.ShloMosaic.Lib.Pipeline.ValueKit
public import Idealize.ShloMosaic.Lib.StableHlo.ReadAt
public import Idealize.ShloMosaic.Lib.Pointwise

@[expose] public section

set_option maxRecDepth 16384

noncomputable section

namespace Cert.KernelIdeal.Ffn

open Cert.KernelIdeal Cert.KernelIdeal.Gen Cert.Spans
open Idealize.ShloMosaic Idealize.ShloMosaic.TcCoe
open Idealize.SL Idealize.SL.Sem

theorem pay1 (v327 : FVec Ideal S16x256 .f32) (v328 : Vec Ideal S256x16 .f32) (v329 : Vec Ideal S256x16 .f32) (v334 : FVec Ideal S256x256 .f32) (v335 : Vec Ideal S256x1152 .f32) (v338 : Vec Ideal S256x1152 .f32) (v344 : Vec Ideal S256x1152 .f32) (v348 : Vec Ideal S1x1152 .f32) (v354 : Vec Ideal S1152x256 .f32) (v356 : Vec Ideal S1x256 .f32) (p n : Fin 256) :
    k1_pay1 (F := Ideal) v327 v328 v329 v334 v335 v338 v344 v348 v354 v356 (ix3 0 p n)
      = ∑ k : Fin 1152, max
            (∑ l : Fin 16, v328 (ix2 p l) * ∑ h : Fin 256, v327 (ix2 l h) * v335 (ix2 h k) +
                  ∑ l : Fin 16, v329 (ix2 p l) * ∑ h : Fin 256, v327 (ix2 l h) * v338 (ix2 h k) +
                ∑ h : Fin 256, v334 (ix2 p h) * v344 (ix2 h k) + v348 (ix2 0 k)) 0 * v354 (ix2 k n) + v356 (ix2 0 n) := by
  pointwise [k1_pay1]

theorem pay20 (x4 : Vec Ideal S1x16x256 .f32) (l : Fin 16) (h : Fin 256) :
    k1_pay20 (F := Ideal) (View.ld x4 r1_33) (ix2 l h) = x4 (ix3 0 l h) := by
  pointwise [k1_pay20]

/-- The context of a pair at a feature: the running maximum of the pieces inside the pair's span, or the head's row where
    the span is empty. -/
def ctx (A0 : Fin 32 → BitVec 32) (lo hi : BitVec 32) (A3 : Fin 32 → Fin 256 → EReal) (A4 : Fin 16 → Fin 256 → EReal)
    (e : Fin 16 → EReal) (h : Fin 256) : EReal :=
  Scalar.select (IntOp.cmpi .slt lo hi)
    (running (fun k => Scalar.select (IntOp.andi (IntOp.cmpi .sge (A0 (Fin.ofNat 32 k)) lo) (IntOp.cmpi .sle (A0 (Fin.ofNat 32 (k + 1))) hi))
      (A3 (Fin.ofNat 32 k) h) negInf) 31)
    (∑ l, e l * A4 l h)

theorem ctx_eq (x0 : Vec Ideal S1x1x32 .i32) (x1 : Vec Ideal S1x256x1 .i32) (x2 : Vec Ideal S1x256x1 .i32) (x3 : Vec Ideal S1x32x256 .f32)
    (x4 : Vec Ideal S1x16x256 .f32) (x5 : Vec Ideal S256x16 .f32) (p h : Fin 256) (mk : IVec S256x31 1) (hmk : mk = k1_pay4 (F := Ideal) (View.ld x0 r1_0) (View.ld x1 r1_1) (View.ld x2 r1_1)) : (k1_pay21 (k1_pay2 (View.ld x1 r1_1)) (k1_pay3 (View.ld x2 r1_1)) mk (k1_pay19 mk (k1_pay16 mk (k1_pay13 mk (k1_pay12 mk (k1_pay10 mk (k1_pay7 mk (k1_pay5 (View.ld x0 r1_0) (View.ld x1 r1_1) (View.ld x2 r1_1) (View.ld x3 r1_2) (View.ld x3 r1_3)) (k1_pay6 (View.ld x3 r1_4)) (View.ld x3 r1_5) (View.ld x3 r1_6) (View.ld x3 r1_7)) (k1_pay8 (View.ld x3 r1_8)) (Scalar.ofBits .f32 0xFF800000#32) (k1_pay9 mk) (View.ld x3 r1_9) (View.ld x3 r1_10) (View.ld x3 r1_11)) (k1_pay11 mk (View.ld x3 r1_12)) (View.ld x3 r1_13) (View.ld x3 r1_14) (View.ld x3 r1_15) (View.ld x3 r1_16)) (View.ld x3 r1_17) (View.ld x3 r1_18) (View.ld x3 r1_19) (View.ld x3 r1_20)) (k1_pay14 (View.ld x3 r1_21)) (k1_pay15 mk) (Scalar.ofBits .f32 0xFF800000#32) (View.ld x3 r1_22) (View.ld x3 r1_23) (View.ld x3 r1_24)) (Scalar.ofBits .f32 0xFF800000#32) (k1_pay17 mk) (k1_pay18 (View.ld x3 r1_25)) (View.ld x3 r1_26) (View.ld x3 r1_27) (View.ld x3 r1_28) (View.ld x3 r1_29)) (View.ld x3 r1_30) (View.ld x3 r1_31) (View.ld x3 r1_32) (View.ld x4 r1_33) (View.ld x5 r1_34)) (ix2 p h)
    = ctx (fun k => x0 (ix3 0 0 k)) (x1 (ix3 0 p 0)) (x2 (ix3 0 p 0)) (fun k h => x3 (ix3 0 k h)) (fun l h => x4 (ix3 0 l h))
      (fun l => x5 (ix2 p l)) h := by
  subst hmk
  unfold ctx
  pointwise [k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21]
  rfl

theorem lit0_eq : ∀ (p : Fin 256) (l : Fin 16), lit0 (S256x16.rowMajor (ix2 p l)) = if p.val / 16 = l.val then 0x3F800000#32 else 0#32 := by
  decide +kernel

theorem lit1_eq : ∀ (p : Fin 256) (l : Fin 16), lit1 (S256x16.rowMajor (ix2 p l)) = if p.val % 16 = l.val then 0x3F800000#32 else 0#32 := by
  decide +kernel

theorem idx : ∀ t : Fin cfg1.N, win1_0.index t = ![t.val, 0, 0] ∧ win1_1.index t = ![t.val, 0, 0] ∧ win1_2.index t = ![t.val, 0, 0]
    ∧ win1_3.index t = ![t.val, 0, 0] ∧ win1_4.index t = ![t.val, 0, 0] ∧ win1_5.index t = ![0, 0] ∧ win1_6.index t = ![0, 0]
    ∧ win1_7.index t = ![0, 0] ∧ win1_8.index t = ![0, 0] ∧ win1_9.index t = ![0, 0] ∧ win1_10.index t = ![0, 0]
    ∧ win1_11.index t = ![0, 0] ∧ win1_12.index t = ![0, 0] ∧ win1_13.index t = ![t.val, 0, 0] :=
  (by decide +kernel : ∀ t : Fin grid1.N, _)

/-- The second call's result at a pair and an output feature, over its operands' entries at one batch. -/
def ffn (a0 : Fin 32 → BitVec 32) (lo hi : Fin 256 → BitVec 32) (a3 : Fin 32 → Fin 256 → EReal) (a4 : Fin 16 → Fin 256 → EReal)
    (A5 A6 : S256x16.Idx → EReal) (A7 A8 A9 : S256x1152.Idx → EReal) (A10 : S1x1152.Idx → EReal) (A11 : S1152x256.Idx → EReal)
    (A12 : S1x256.Idx → EReal) (p n : Fin 256) : EReal :=
  ∑ k : Fin 1152, max
      (∑ l : Fin 16, A5 (ix2 p l) * ∑ h : Fin 256, a4 l h * A7 (ix2 h k) +
            ∑ l : Fin 16, A6 (ix2 p l) * ∑ h : Fin 256, a4 l h * A8 (ix2 h k) +
          ∑ h : Fin 256, ctx a0 (lo p) (hi p) a3 a4 (fun l => A5 (ix2 p l)) h * A9 (ix2 h k) + A10 (ix2 0 k)) 0 * A11 (ix2 k n)
    + A12 (ix2 0 n)

theorem out_eq (x0 : Vec Ideal S1x1x32 .i32) (x1 : Vec Ideal S1x256x1 .i32) (x2 : Vec Ideal S1x256x1 .i32) (x3 : Vec Ideal S1x32x256 .f32) (x4 : Vec Ideal S1x16x256 .f32) (x5 : Vec Ideal S256x16 .f32) (x6 : Vec Ideal S256x16 .f32) (x7 : Vec Ideal S256x1152 .f32) (x8 : Vec Ideal S256x1152 .f32) (x9 : Vec Ideal S256x1152 .f32) (x10 : Vec Ideal S1x1152 .f32) (x11 : Vec Ideal S1152x256 .f32) (x12 : Vec Ideal S1x256 .f32)  (p n : Fin 256) :
    out1_13 (F := Ideal) x0 x1 x2 x3 x4 x5 x6 x7 x8 x9 x10 x11 x12 (ix3 0 p n)
      = ffn (fun q => x0 (ix3 0 0 q)) (fun p => x1 (ix3 0 p 0)) (fun p => x2 (ix3 0 p 0)) (fun q h => x3 (ix3 0 q h))
          (fun l h => x4 (ix3 0 l h)) x5 x6 x7 x8 x9 x10 x11 x12 p n := by
  unfold out1_13
  rw [View.canon_unit_zero (by decide), pay1]
  simp only [ctx_eq x0 x1 x2 x3 x4 x5 _ _ (k1_pay22 x0 x1 x2 x3 x4 x5 x6 x7 x8 x9 x10 x11 x12) rfl, pay20]
  unfold ffn
  pointwise

variable (V : (c : Dev nD) → (b : Ref sig .tc) → Buf (Elt Ideal) ((c.tc : Thread nD τ).loc b)) (c : Dev nD)

theorem blk0 (t : Fin cfg1.N) (b : Fin 8) (hb : b.val = t.val) (s : Fin 32) :
    iblk1 (F := Ideal) V c 0 t (ix3 0 0 s) = V c main_call0_v18 (ix3 b 0 s) := by
  blk_ext! [iblk1, idx t]

theorem blk1 (t : Fin cfg1.N) (b : Fin 8) (hb : b.val = t.val) (s : Fin 256) :
    iblk1 (F := Ideal) V c 1 t (ix3 0 s 0) = V c main_call0_v16 (ix3 b s 0) := by
  blk_ext! [iblk1, idx t]

theorem blk2 (t : Fin cfg1.N) (b : Fin 8) (hb : b.val = t.val) (s : Fin 256) :
    iblk1 (F := Ideal) V c 2 t (ix3 0 s 0) = V c main_call0_v17 (ix3 b s 0) := by
  blk_ext! [iblk1, idx t]

theorem blk3 (t : Fin cfg1.N) (b : Fin 8) (hb : b.val = t.val) (s : Fin 32) (h : Fin 256) :
    iblk1 (F := Ideal) V c 3 t (ix3 0 s h) = V c main_call0_v19 (ix3 b s h) := by
  blk_ext! [iblk1, idx t]

theorem blk4 (t : Fin cfg1.N) (b : Fin 8) (hb : b.val = t.val) (s : Fin 16) (h : Fin 256) :
    iblk1 (F := Ideal) V c 4 t (ix3 0 s h) = V c main_arg0 (ix3 b s h) := by
  blk_ext! [iblk1, idx t]

theorem blk5 (t : Fin cfg1.N) : iblk1 (F := Ideal) V c 5 t = V c main_call0_cst := by
  blk_ext! [iblk1, idx t]

theorem blk6 (t : Fin cfg1.N) : iblk1 (F := Ideal) V c 6 t = V c main_call0_cst_0 := by
  blk_ext! [iblk1, idx t]

theorem blk7 (t : Fin cfg1.N) : iblk1 (F := Ideal) V c 7 t = V c main_call0_v20 := by
  blk_ext! [iblk1, idx t]

theorem blk8 (t : Fin cfg1.N) : iblk1 (F := Ideal) V c 8 t = V c main_call0_v21 := by
  blk_ext! [iblk1, idx t]

theorem blk9 (t : Fin cfg1.N) : iblk1 (F := Ideal) V c 9 t = V c main_call0_v22 := by
  blk_ext! [iblk1, idx t]

theorem blk10 (t : Fin cfg1.N) : iblk1 (F := Ideal) V c 10 t = V c main_call0_v23 := by
  blk_ext! [iblk1, idx t]

theorem blk11 (t : Fin cfg1.N) : iblk1 (F := Ideal) V c 11 t = V c main_arg6 := by
  blk_ext! [iblk1, idx t]

theorem blk12 (t : Fin cfg1.N) : iblk1 (F := Ideal) V c 12 t = V c main_call0_v24 := by
  blk_ext! [iblk1, idx t]

/-- The second call's output array, the result of the program. -/
theorem arr : (dat1 (F := Ideal) V c).arrAt 13 cfg1.N
    = fun i : S8x256x256.Idx => ffn (fun q => V c main_call0_v18 (ix3 (i 0) 0 q)) (fun p => V c main_call0_v16 (ix3 (i 0) p 0))
        (fun p => V c main_call0_v17 (ix3 (i 0) p 0)) (fun q h => V c main_call0_v19 (ix3 (i 0) q h)) (fun l h => V c main_arg0 (ix3 (i 0) l h))
        (V c main_call0_cst) (V c main_call0_cst_0) (V c main_call0_v20) (V c main_call0_v21) (V c main_call0_v22) (V c main_call0_v23)
        (V c main_arg6) (V c main_call0_v24) (i 1) (i 2) := by
  refine (dat1 V c).arrAt_eq_of_covers 13 _ (by decide +kernel) fun t hf y => ?_
  blk_simp
  rw [after1_13]
  have y0 : (y 0).val < 1 := (y 0).isLt
  have e0 : ((win1_13.blk t).view.emb y 0).val = t.val := by blk_simp [idx t]
  have e1 : (win1_13.blk t).view.emb y 1 = y 1 := Fin.ext (by blk_simp [idx t])
  have e2 : (win1_13.blk t).view.emb y 2 = y 2 := Fin.ext (by blk_simp [idx t])
  have hy : y = ix3 (0 : Fin 1) (y 1 : Fin 256) (y 2 : Fin 256) := by
    rw [show (0 : Fin 1) = (y 0 : Fin 1) from Subsingleton.elim _ _]; exact eq_ix3 y
  rw [e1, e2]
  conv_lhs => rw [hy]
  refine (out_eq _ _ _ _ _ _ _ _ _ _ _ _ _ _ _).trans ?_
  simp only [blk0 V c t _ e0, blk1 V c t _ e0, blk2 V c t _ e0, blk3 V c t _ e0, blk4 V c t _ e0]
  rw [blk5, blk6, blk7, blk8, blk9, blk10, blk11, blk12]

end Cert.KernelIdeal.Ffn
-- ==== Proof.HostPart.lean ====
module

public import proofs.«01_k».proof.Proof.Gen.KernelIdeal.Frame
public import proofs.«01_k».proof.Proof.Spans
public import Idealize.ShloMosaic.Lib.StableHlo.ReadAt
public import Idealize.ShloMosaic.Lib.StableHlo.RunRead
public import Idealize.ShloMosaic.Lib.Pointwise

@[expose] public section

set_option maxRecDepth 16384

noncomputable section

namespace Cert.KernelIdeal.HostPart

open Cert.KernelIdeal Cert.KernelIdeal.Gen Cert.Spans
open Idealize.ShloMosaic Idealize.ShloMosaic.TcCoe
open Idealize.SL Idealize.SL.Sem

variable (m : (ℓ : Loc nD τ sig) → Buf (Elt Ideal) ℓ) (ρ : Dev nD → PrngReg) (c : Dev nD)

theorem v5 : W1 (F := Ideal) m ρ c (Proc.devRef .tc main_call0_v5)
    = Host.sort S8x32 1 comparator_i32_d1 (ends (m ((c.tc : Thread nD τ).loc main_arg1))) := by
  funext j
  idx_vars j
  unfold W1
  after_reads_at
  refine congrFun (congrArg (Host.sort S8x32 1 comparator_i32_d1) ?_) _
  funext j
  idx_vars j
  pointwise [ends]
  after_reads_at

/-- What a buffer that neither the lines between the calls nor the first call write holds at the second call. -/
theorem keep (r : Ref sig .tc) (h1 : r ∉ hostOps1_W) (h0 : ∀ w, Pipeline.arrRef spec0 w ≠ r) :
    V3 (F := Ideal) m ρ c r = W1 m ρ c (Proc.devRef .tc r) :=
  (W3_of m ρ c r h1).trans (W2_of_ne m ρ c r h0)

theorem v18 (b : Fin 8) (q : Fin 32) : V3 (F := Ideal) m ρ c main_call0_v18 (ix3 b 0 q)
    = Host.sort S8x32 1 comparator_i32_d1 (ends (m ((c.tc : Thread nD τ).loc main_arg1))) (ix2 b q) := by
  rw [keep m ρ c main_call0_v18 (by decide) (by decide), ← v5 m ρ c]
  unfold W1
  after_reads_at

theorem v16 (b : Fin 8) (p : Fin 256) : V3 (F := Ideal) m ρ c main_call0_v16 (ix3 b p 0) = lo (m ((c.tc : Thread nD τ).loc main_arg1)) b p := by
  rw [keep m ρ c main_call0_v16 (by decide) (by decide)]
  unfold W1
  after_reads_at
  rfl

theorem v17 (b : Fin 8) (p : Fin 256) : V3 (F := Ideal) m ρ c main_call0_v17 (ix3 b p 0) = hi (m ((c.tc : Thread nD τ).loc main_arg1)) b p := by
  rw [keep m ρ c main_call0_v17 (by decide) (by decide)]
  unfold W1
  after_reads_at
  rfl

theorem v19 : V3 (F := Ideal) m ρ c main_call0_v19 = (dat0 (V1 m ρ) c).arrAt 2 cfg0.N :=
  (W3_of m ρ c main_call0_v19 (by decide)).trans (W2_arr m ρ c 2)

theorem cst (p : Fin 256) (l : Fin 16) : V3 (F := Ideal) m ρ c main_call0_cst (ix2 p l) = Ideal.ofBits FTy.f32 (lit0 (S256x16.rowMajor (ix2 p l))) := by
  rw [keep m ρ c main_call0_cst (by decide) (by decide)]
  unfold W1
  after_reads_at

theorem cst_0 (p : Fin 256) (l : Fin 16) : V3 (F := Ideal) m ρ c main_call0_cst_0 (ix2 p l) = Ideal.ofBits FTy.f32 (lit1 (S256x16.rowMajor (ix2 p l))) := by
  rw [keep m ρ c main_call0_cst_0 (by decide) (by decide)]
  unfold W1
  after_reads_at

theorem v20 (h : Fin 256) (k : Fin 1152) : V3 (F := Ideal) m ρ c main_call0_v20 (ix2 h k)
    = m ((c.tc : Thread nD τ).loc main_arg4) (ix2 (⟨h.val, by omega⟩ : Fin 768) k) := by
  rw [← W2_args m ρ c main_arg4 (by decide)]
  show W3 m ρ c (Proc.devRef .tc main_call0_v20) (ix2 h k) = _
  unfold W3
  after_reads_at

theorem v21 (h : Fin 256) (k : Fin 1152) : V3 (F := Ideal) m ρ c main_call0_v21 (ix2 h k)
    = m ((c.tc : Thread nD τ).loc main_arg4) (ix2 (⟨256 + h.val, by omega⟩ : Fin 768) k) := by
  rw [← W2_args m ρ c main_arg4 (by decide)]
  show W3 m ρ c (Proc.devRef .tc main_call0_v21) (ix2 h k) = _
  unfold W3
  after_reads_at

theorem v22 (h : Fin 256) (k : Fin 1152) : V3 (F := Ideal) m ρ c main_call0_v22 (ix2 h k)
    = m ((c.tc : Thread nD τ).loc main_arg4) (ix2 (⟨512 + h.val, by omega⟩ : Fin 768) k) := by
  rw [← W2_args m ρ c main_arg4 (by decide)]
  show W3 m ρ c (Proc.devRef .tc main_call0_v22) (ix2 h k) = _
  unfold W3
  after_reads_at

theorem v23 (k : Fin 1152) : V3 (F := Ideal) m ρ c main_call0_v23 (ix2 0 k) = m ((c.tc : Thread nD τ).loc main_arg5) (ix1 k) := by
  rw [← W2_args m ρ c main_arg5 (by decide)]
  show W3 m ρ c (Proc.devRef .tc main_call0_v23) (ix2 0 k) = _
  unfold W3
  after_reads_at

theorem v24 (k : Fin 256) : V3 (F := Ideal) m ρ c main_call0_v24 (ix2 0 k) = m ((c.tc : Thread nD τ).loc main_arg7) (ix1 k) := by
  rw [← W2_args m ρ c main_arg7 (by decide)]
  show W3 m ρ c (Proc.devRef .tc main_call0_v24) (ix2 0 k) = _
  unfold W3
  after_reads_at

end Cert.KernelIdeal.HostPart
-- ==== Proof.RefValue.lean ====
module

public import proofs.«01_k».proof.Proof.Gen.ReferenceIdeal.Run
public import proofs.«01_k».proof.Proof.Spans
public import Idealize.ShloMosaic.Lib.Tactic.CleanTypes
public import Idealize.ShloMosaic.Lib.Pointwise

@[expose] public section

set_option maxRecDepth 16384

noncomputable section

namespace Cert.ReferenceIdeal.RefValue

open Cert.ReferenceIdeal Cert.ReferenceIdeal.Gen Cert.ReferenceIdeal.Value Cert.Spans
open Idealize.ShloMosaic Idealize.ShloMosaic.TcCoe
open Idealize.SL Idealize.SL.Sem

variable (m : (ℓ : Loc nD τ sig) → Buf (Elt Ideal) ℓ) (c : Dev nD)

/-- The reference's result, where no token is masked. -/
theorem res_eq (hm : ∀ (b : Fin 8) (t : Fin 2048), m ((c.tc : Thread nD τ).loc main_arg3) (ix2 b t) = 1#1) (b : Fin 8) (p n : Fin 256) :
    res_main_v55 (F := Ideal) m c (ix3 b p n)
      = answer (m ((c.tc : Thread nD τ).loc main_arg0)) (m ((c.tc : Thread nD τ).loc main_arg1)) (m ((c.tc : Thread nD τ).loc main_arg2))
          (m ((c.tc : Thread nD τ).loc main_arg4)) (m ((c.tc : Thread nD τ).loc main_arg5)) (m ((c.tc : Thread nD τ).loc main_arg6))
          (m ((c.tc : Thread nD τ).loc main_arg7)) b p n := by
  unfold res_main_v55
  clean_types
  pointwise
  unfold answer
  refine congrArg₂ (· + ·) (Finset.sum_congr rfl fun k _ => ?_) rfl
  refine congrArg₂ (· * ·) (congrArg₂ max (congrArg₂ (· + ·) ?_ rfl) rfl) rfl
  rw [sum_thirds]
  refine congrArg₂ (· + ·) (congrArg₂ (· + ·) (Finset.sum_congr rfl fun h _ => ?_) (Finset.sum_congr rfl fun h _ => ?_))
    (Finset.sum_congr rfl fun h _ => ?_)
  · rw [dif_pos h.isLt]
    rfl
  · rw [dif_neg (show ¬ 256 + h.val < 256 by omega), dif_pos (show 256 + h.val - 256 < 256 by omega)]
    simp only [show 256 + h.val - 256 = h.val by omega, Fin.eta]
    rfl
  · rw [dif_neg (show ¬ 512 + h.val < 256 by omega), dif_neg (show ¬ 512 + h.val - 256 < 256 by omega)]
    simp only [show 512 + h.val - 256 - 256 = h.val by omega, Fin.eta, hm, andi_one]
    rfl

end Cert.ReferenceIdeal.RefValue
-- ==== Proof.Equation.lean ====
module

public import proofs.«01_k».proof.Defs
public import proofs.«01_k».proof.Proof.Gen.Pre_all_unmasked
public import proofs.«01_k».proof.Proof.Gen.ReferenceIdeal
public import proofs.«01_k».proof.Proof.KernelRun
public import proofs.«01_k».proof.Proof.Seg
public import proofs.«01_k».proof.Proof.Ffn
public import proofs.«01_k».proof.Proof.HostPart
public import proofs.«01_k».proof.Proof.RefValue
public import Idealize.ShloMosaic.Lib.ReduceAll
public import Idealize.ShloMosaic.Lib.Claim

@[expose] public section

set_option maxRecDepth 16384

noncomputable section

namespace Cert.Equation

open Cert.Spans
open Idealize.ShloMosaic Idealize.ShloMosaic.TcCoe
open Idealize.SL Idealize.SL.Sem

section kernel

open Cert.KernelIdeal Cert.KernelIdeal.Gen Cert.KernelIdeal.HostPart

variable (m : (ℓ : Loc nD τ sig) → Buf (Elt Ideal) ℓ) (ρ : Dev nD → PrngReg) (c : Dev nD)

theorem ends_start (X1 : S8x16x2.Idx → BitVec 32) (b : Fin 8) (l : Fin 16) :
    ends X1 (ix2 b ⟨l.val, by omega⟩) = X1 (ix3 b l 0) := by
  show (if h : l.val < 16 then _ else _) = _
  rw [dif_pos l.isLt]
  rfl

theorem ends_end (X1 : S8x16x2.Idx → BitVec 32) (b : Fin 8) (l : Fin 16) :
    ends X1 (ix2 b ⟨l.val + 16, by omega⟩) = X1 (ix3 b l 1) := by
  show (if h : l.val + 16 < 16 then _ else X1 (ix3 b ⟨l.val + 16 - 16, _⟩ 1)) = _
  rw [dif_neg (by omega)]
  simp only [Nat.add_sub_cancel, Fin.eta]

/-- Both ends of a pair's context are among the sorted bounds. -/
theorem lo_mem (X1 : S8x16x2.Idx → BitVec 32) (b : Fin 8) (p : Fin 256) :
    ∃ a, Host.sort S8x32 1 comparator_i32_d1 (ends X1) (ix2 b a) = lo X1 b p := by
  unfold lo
  rcases minsi_mem (X1 (ix3 b (hd p) 1)) (X1 (ix3 b (tl p) 1)) with h | h
  · obtain ⟨a, ha⟩ := sort_surj (ends X1) b ⟨(hd p).val + 16, by omega⟩
    exact ⟨a, ha.trans ((ends_end X1 b (hd p)).trans h.symm)⟩
  · obtain ⟨a, ha⟩ := sort_surj (ends X1) b ⟨(tl p).val + 16, by omega⟩
    exact ⟨a, ha.trans ((ends_end X1 b (tl p)).trans h.symm)⟩

theorem hi_mem (X1 : S8x16x2.Idx → BitVec 32) (b : Fin 8) (p : Fin 256) :
    ∃ a, Host.sort S8x32 1 comparator_i32_d1 (ends X1) (ix2 b a) = hi X1 b p := by
  unfold hi
  rcases maxsi_mem (X1 (ix3 b (hd p) 0)) (X1 (ix3 b (tl p) 0)) with h | h
  · obtain ⟨a, ha⟩ := sort_surj (ends X1) b ⟨(hd p).val, by omega⟩
    exact ⟨a, ha.trans ((ends_start X1 b (hd p)).trans h.symm)⟩
  · obtain ⟨a, ha⟩ := sort_surj (ends X1) b ⟨(tl p).val, by omega⟩
    exact ⟨a, ha.trans ((ends_start X1 b (tl p)).trans h.symm)⟩

/-- The context over rows that hold the maxima of the pieces between ascending bounds is the maximum over the span. -/
theorem ctx_pieces (B : Fin 32 → BitVec 32) (hB : ∀ i j, i ≤ j → (B i).toInt ≤ (B j).toInt) (l u : BitVec 32)
    (hl : ∃ a, B a = l) (hu : ∃ a, B a = u) (tok : Fin 2048 → EReal) (A3 : Fin 32 → Fin 256 → EReal) (h : Fin 256)
    (h3 : ∀ k, k < 31 → A3 (Fin.ofNat 32 k) h = span (B (Fin.ofNat 32 k)) (B (Fin.ofNat 32 (k + 1))) tok)
    (A4 : Fin 16 → Fin 256 → EReal) (e : Fin 16 → EReal) (x : EReal) (he : ∑ q, e q * A4 q h = x) :
    Ffn.ctx B l u A3 A4 e h = Scalar.select (IntOp.cmpi .slt l u) (span l u tok) x := by
  unfold Ffn.ctx
  rw [he, ← running_span B hB l u hl hu tok]
  exact congrArg (fun z => Scalar.select (IntOp.cmpi .slt l u) z x)
    (running_congr _ _ 31 fun k hk => congrArg (fun z => Scalar.select _ z negInf) (h3 k hk))

/-- A row of the first call's output: the maximum of the piece between two neighbouring bounds. -/
theorem piece_row (X : S8x32.Idx → BitVec 32) (T : Fin 2048 → Fin 256 → EReal) (b : Fin 8) (h : Fin 256) (k : ℕ) (hk : k < 31) :
    Seg.row X T b (Fin.ofNat 32 k) h = span (X (ix2 b (Fin.ofNat 32 k))) (X (ix2 b (Fin.ofNat 32 (k + 1)))) fun t => T t h := by
  have hk' : (Fin.ofNat 32 k).val = k := by rw [Fin.val_ofNat]; omega
  unfold Seg.row
  rw [if_pos (by omega), hk']

theorem v19_row (b : Fin 8) (h : Fin 256) (k : ℕ) (hk : k < 31) :
    V3 (F := Ideal) m ρ c main_call0_v19 (ix3 b (Fin.ofNat 32 k) h)
      = span (V3 (F := Ideal) m ρ c main_call0_v18 (ix3 b 0 (Fin.ofNat 32 k))) (V3 (F := Ideal) m ρ c main_call0_v18 (ix3 b 0 (Fin.ofNat 32 (k + 1))))
          fun t => m ((c.tc : Thread nD τ).loc main_arg2) (ix3 b t h) := by
  rw [v18, v18]
  refine (congrFun ((v19 m ρ c).trans (Seg.arr (V1 m ρ) c)) _).trans ?_
  refine (piece_row (V1 m ρ c main_call0_v5) (fun s h => V1 m ρ c main_arg2 (ix3 b s h)) b h k hk).trans ?_
  exact Seg.span_congr _ _ _ _ _ _ (congrFun (v5 m ρ c) _) (congrFun (v5 m ρ c) _)
    (fun t => congrFun (W1_args m ρ c main_arg2 (by decide)) _)

/-- The second call's result over one-hot tables, with the context known. -/
theorem ffn_value (a0 : Fin 32 → BitVec 32) (lo hi : Fin 256 → BitVec 32) (a3 : Fin 32 → Fin 256 → EReal) (a4 : Fin 16 → Fin 256 → EReal)
    (A5 A6 : S256x16.Idx → EReal) (A7 A8 A9 : S256x1152.Idx → EReal) (A10 : S1x1152.Idx → EReal) (A11 : S1152x256.Idx → EReal)
    (A12 : S1x256.Idx → EReal) (p n : Fin 256) (C : Fin 256 → EReal)
    (hH : ∀ f : Fin 16 → EReal, ∑ l, A5 (ix2 p l) * f l = f (hd p)) (hT : ∀ f : Fin 16 → EReal, ∑ l, A6 (ix2 p l) * f l = f (tl p))
    (hC : ∀ h, Ffn.ctx a0 (lo p) (hi p) a3 a4 (fun l => A5 (ix2 p l)) h = C h) :
    Ffn.ffn a0 lo hi a3 a4 A5 A6 A7 A8 A9 A10 A11 A12 p n
      = ∑ k : Fin 1152, max (∑ h : Fin 256, a4 (hd p) h * A7 (ix2 h k) + ∑ h : Fin 256, a4 (tl p) h * A8 (ix2 h k)
            + ∑ h : Fin 256, C h * A9 (ix2 h k) + A10 (ix2 0 k)) 0 * A11 (ix2 k n) + A12 (ix2 0 n) := by
  unfold Ffn.ffn
  refine congrArg (· + A12 (ix2 0 n)) (Finset.sum_congr rfl fun k _ => ?_)
  rw [hH fun l => ∑ h, a4 l h * A7 (ix2 h k), hT fun l => ∑ h, a4 l h * A8 (ix2 h k)]
  simp only [hC]

theorem pick_head (p : Fin 256) (A : S256x16.Idx → EReal)
    (hA : ∀ l : Fin 16, A (ix2 p l) = Ideal.ofBits FTy.f32 (lit0 (S256x16.rowMajor (ix2 p l)))) (f : Fin 16 → EReal) :
    ∑ l, A (ix2 p l) * f l = f (hd p) := by
  simp only [hA]
  exact sum_pick _ (hd p) (fun l => Ffn.lit0_eq p l) f

theorem pick_tail (p : Fin 256) (A : S256x16.Idx → EReal)
    (hA : ∀ l : Fin 16, A (ix2 p l) = Ideal.ofBits FTy.f32 (lit1 (S256x16.rowMajor (ix2 p l)))) (f : Fin 16 → EReal) :
    ∑ l, A (ix2 p l) * f l = f (tl p) := by
  simp only [hA]
  exact sum_pick _ (tl p) (fun l => Ffn.lit1_eq p l) f

/-- The kernel's context of a pair is the maximum over the pair's span. -/
theorem ctx_span (b : Fin 8) (p h : Fin 256) :
    Ffn.ctx (fun q => V3 (F := Ideal) m ρ c main_call0_v18 (ix3 b 0 q)) (V3 (F := Ideal) m ρ c main_call0_v16 (ix3 b p 0))
      (V3 (F := Ideal) m ρ c main_call0_v17 (ix3 b p 0)) (fun q h => V3 (F := Ideal) m ρ c main_call0_v19 (ix3 b q h))
      (fun l h => V3 (F := Ideal) m ρ c main_arg0 (ix3 b l h)) (fun l => V3 (F := Ideal) m ρ c main_call0_cst (ix2 p l)) h
    = Scalar.select (IntOp.cmpi .slt (lo (m ((c.tc : Thread nD τ).loc main_arg1)) b p) (hi (m ((c.tc : Thread nD τ).loc main_arg1)) b p))
        (span (lo (m ((c.tc : Thread nD τ).loc main_arg1)) b p) (hi (m ((c.tc : Thread nD τ).loc main_arg1)) b p)
          fun t => m ((c.tc : Thread nD τ).loc main_arg2) (ix3 b t h))
        (m ((c.tc : Thread nD τ).loc main_arg0) (ix3 b (hd p) h)) := by
  rw [v16, v17]
  refine ctx_pieces _ (fun i j hij => ?_) _ _ ?_ ?_ (fun t => m ((c.tc : Thread nD τ).loc main_arg2) (ix3 b t h)) _ h
    (fun k hk => v19_row m ρ c b h k hk) _ _ _ ?_
  · show (V3 (F := Ideal) m ρ c main_call0_v18 (ix3 b 0 i)).toInt ≤ (V3 (F := Ideal) m ρ c main_call0_v18 (ix3 b 0 j)).toInt
    rw [v18, v18]
    exact sort_mono _ _ _ _ hij
  · obtain ⟨a, ha⟩ := lo_mem (m ((c.tc : Thread nD τ).loc main_arg1)) b p
    exact ⟨a, (v18 m ρ c b a).trans ha⟩
  · obtain ⟨a, ha⟩ := hi_mem (m ((c.tc : Thread nD τ).loc main_arg1)) b p
    exact ⟨a, (v18 m ρ c b a).trans ha⟩
  · refine (pick_head p (V3 (F := Ideal) m ρ c main_call0_cst) (cst m ρ c p) fun l => V3 (F := Ideal) m ρ c main_arg0 (ix3 b l h)).trans ?_
    exact congrFun (W3_args m ρ c main_arg0 (by decide)) _

/-- The kernel's result. -/
theorem kernel_eq (b : Fin 8) (p n : Fin 256) :
    W4 (F := Ideal) m ρ c (Proc.devRef .tc main_v0) (ix3 b p n)
      = answer (m ((c.tc : Thread nD τ).loc main_arg0)) (m ((c.tc : Thread nD τ).loc main_arg1)) (m ((c.tc : Thread nD τ).loc main_arg2))
          (m ((c.tc : Thread nD τ).loc main_arg4)) (m ((c.tc : Thread nD τ).loc main_arg5)) (m ((c.tc : Thread nD τ).loc main_arg6))
          (m ((c.tc : Thread nD τ).loc main_arg7)) b p n := by
  have a0 : ∀ l h, V3 (F := Ideal) m ρ c main_arg0 (ix3 b l h) = m ((c.tc : Thread nD τ).loc main_arg0) (ix3 b l h) :=
    fun l h => congrFun (W3_args m ρ c main_arg0 (by decide)) _
  have a6 : ∀ k, V3 (F := Ideal) m ρ c main_arg6 (ix2 k n) = m ((c.tc : Thread nD τ).loc main_arg6) (ix2 k n) :=
    fun k => congrFun (W3_args m ρ c main_arg6 (by decide)) _
  refine (congrFun ((W4_arr m ρ c 13).trans (Ffn.arr (V3 m ρ) c)) (ix3 b p n)).trans ?_
  refine (ffn_value (fun q => V3 m ρ c main_call0_v18 (ix3 b 0 q)) (fun p => V3 m ρ c main_call0_v16 (ix3 b p 0))
        (fun p => V3 m ρ c main_call0_v17 (ix3 b p 0)) (fun q h => V3 m ρ c main_call0_v19 (ix3 b q h)) (fun l h => V3 m ρ c main_arg0 (ix3 b l h))
        (V3 m ρ c main_call0_cst) (V3 m ρ c main_call0_cst_0) (V3 m ρ c main_call0_v20) (V3 m ρ c main_call0_v21) (V3 m ρ c main_call0_v22)
        (V3 m ρ c main_call0_v23) (V3 m ρ c main_arg6) (V3 m ρ c main_call0_v24) p n _
        (pick_head p _ (cst m ρ c p)) (pick_tail p _ (cst_0 m ρ c p)) (fun h => ctx_span m ρ c b p h)).trans ?_
  unfold answer
  rw [v24]
  refine congrArg (· + _) (Finset.sum_congr rfl fun k _ => ?_)
  rw [v23, a6]
  refine congrArg (fun z => max (z + _) 0 * _) ?_
  refine congrArg₂ (· + ·) (congrArg₂ (· + ·) (Finset.sum_congr rfl fun h _ => ?_) (Finset.sum_congr rfl fun h _ => ?_))
    (Finset.sum_congr rfl fun h _ => ?_)
  · rw [v20, a0]
  · rw [v21, a0]
  · rw [v22]

end kernel

/-- Every word of the mask is 1 where the precondition holds. -/
theorem mask_one (m : (ℓ : Loc Cert.KernelIdeal.nD Cert.KernelIdeal.τ Cert.KernelIdeal.sig) → Buf (Elt Ideal) ℓ)
    (h : Cert.Pre_KernelIdeal_all_unmasked m) (c : Dev Cert.KernelIdeal.nD) (b : Fin 8) (t : Fin 2048) :
    m ((c.tc : Thread Cert.KernelIdeal.nD Cert.KernelIdeal.τ).loc Cert.KernelIdeal.main_arg3) (ix2 b t) = 1#1 := by
  have h1 := h c
  unfold Cert.Pre_all_unmasked.fn at h1
  haveI : Subsingleton Cert.Pre_all_unmasked.S_.Idx := ⟨fun i j => funext fun a => a.elim0⟩
  exact Host.reduce_andi_all _ _ _ _ ix0 (congrFun h1 ix0) (ix2 b t)

theorem algebraic : Cert.algebraic_KernelIdeal_ReferenceIdeal_pre_all_unmasked := by
  intro m g m' g' hpre hagree
  refine ⟨fun c => Cert.KernelIdeal.Gen.W4 (F := Ideal) m g c (Proc.devRef .tc Cert.KernelIdeal.main_v0), ?_, ?_⟩
  · exact (θ_run Cert.KernelIdeal.defs _ _).mono (fun r h => h.1) (Cert.KernelIdeal.Run.run (F := Ideal) m g)
  · refine (θ_run Cert.ReferenceIdeal.defs _ _).mono (fun r h c => ⟨(h c).1.trans ?_, (h c).2⟩) (Cert.ReferenceIdeal.Value.run (F := Ideal) m' g')
    obtain ⟨e0, e1, e2, e3, e4, e5, e6, e7⟩ := hagree c
    funext j
    rw [eq_ix3 j]
    refine (Cert.ReferenceIdeal.RefValue.res_eq m' c (fun b t => (congrFun e3 _).trans (mask_one m hpre c b t)) (j 0) (j 1) (j 2)).trans ?_
    rw [e0, e1, e2, e4, e5, e6, e7]
    exact (kernel_eq m g c (j 0) (j 1) (j 2)).symm

end Cert.Equation
-- ==== Proof.ArgmaxRun.lean ====
/- The run of the second reference, `ReferenceArgmaxIdeal`: its operations as a list, its result as one term of the arguments, and
   the run that reads that term back. -/
module

public import proofs.«01_k».proof.Proof.Gen.ReferenceArgmaxIdeal
public import Idealize.ShloMosaic.Lib.StableHlo.Run

@[expose] public section

noncomputable section

namespace Cert.ReferenceArgmaxIdeal.Value

open Cert.ReferenceArgmaxIdeal Cert.ReferenceArgmaxIdeal.Gen Idealize.ShloMosaic Idealize.ShloMosaic.TcCoe Idealize.SL.Sem Idealize.ShloMosaic.StableHlo

variable {F : FTy → Type} [FloatOps F]

/-- The function of the operation that writes `main_v52`, named. It packs its operands into a list of dependent pairs
    whose shapes a later argument's type mentions, so `simp` cannot rewrite an operand where it stands; applied by
    name, the operands are plain arguments, which `run`'s simp pass rewrites before the name unfolds. -/
def fn_main_v52 : (main_v1 : Ref sig .tc).ty.Contents (Elt F) → (main_v3 : Ref sig .tc).ty.Contents (Elt F) → (main_v51 : Ref sig .tc).ty.Contents (Elt F) → (main_v52 : Ref sig .tc).ty.Contents (Elt F) :=
  (fun u0 u1 u2 => (concatenate S8x16x16x768 3 [⟨S8x16x16x256, (u0 : (⟨S8x16x16x256, .f32⟩ : BufTy).Contents (Elt F))⟩, ⟨S8x16x16x256, (u1 : (⟨S8x16x16x256, .f32⟩ : BufTy).Contents (Elt F))⟩, ⟨S8x16x16x256, (u2 : (⟨S8x16x16x256, .f32⟩ : BufTy).Contents (Elt F))⟩] concatenates_S8x16x16x256_S8x16x16x256_S8x16x16x256_S8x16x16x768_d3 : (⟨S8x16x16x768, .f32⟩ : BufTy).Contents (Elt F)))

/-- @main's 101 operations, in order (a called function's operations stand in its call's place, spelt `TRef.…`). -/
abbrev ops : List (HloOp τ sig (Elt F)) :=
  [ unary main_arg0 main_v0 (broadcastInDim S8x16x1x256 ![0, 1, 3] bcast_S8x16x256_S8x16x1x256_0_1_3 : (⟨S8x16x256, .f32⟩ : BufTy).Contents (Elt F) → (⟨S8x16x1x256, .f32⟩ : BufTy).Contents (Elt F)),
    unary main_v0 main_v1 (broadcastInDim S8x16x16x256 ![0, 1, 2, 3] bcast_S8x16x1x256_S8x16x16x256_0_1_2_3 : (⟨S8x16x1x256, .f32⟩ : BufTy).Contents (Elt F) → (⟨S8x16x16x256, .f32⟩ : BufTy).Contents (Elt F)),
    unary main_arg0 main_v2 (broadcastInDim S8x1x16x256 ![0, 2, 3] bcast_S8x16x256_S8x1x16x256_0_2_3 : (⟨S8x16x256, .f32⟩ : BufTy).Contents (Elt F) → (⟨S8x1x16x256, .f32⟩ : BufTy).Contents (Elt F)),
    unary main_v2 main_v3 (broadcastInDim S8x16x16x256 ![0, 1, 2, 3] bcast_S8x1x16x256_S8x16x16x256_0_1_2_3 : (⟨S8x1x16x256, .f32⟩ : BufTy).Contents (Elt F) → (⟨S8x16x16x256, .f32⟩ : BufTy).Contents (Elt F)),
    unary main_arg1 main_v4 ((extractStridedSlice S8x16x1 ![0, 0, 0] · slices_S8x16x2_S8x16x1_0_0_0) : (⟨S8x16x2, .i32⟩ : BufTy).Contents (Elt F) → (⟨S8x16x1, .i32⟩ : BufTy).Contents (Elt F)),
    reshape main_v4 main_v5 (rfl : (.i32 : EltTy) = .i32) shapeCasts_S8x16x1_S8x16,
    unary main_v5 main_v6 (broadcastInDim S8x16x1 ![0, 1] bcast_S8x16_S8x16x1_0_1 : (⟨S8x16, .i32⟩ : BufTy).Contents (Elt F) → (⟨S8x16x1, .i32⟩ : BufTy).Contents (Elt F)),
    unary main_arg1 main_v7 ((extractStridedSlice S8x16x1 ![0, 0, 1] · slices_S8x16x2_S8x16x1_0_0_1) : (⟨S8x16x2, .i32⟩ : BufTy).Contents (Elt F) → (⟨S8x16x1, .i32⟩ : BufTy).Contents (Elt F)),
    reshape main_v7 main_v8 (rfl : (.i32 : EltTy) = .i32) shapeCasts_S8x16x1_S8x16,
    unary main_v8 main_v9 (broadcastInDim S8x16x1 ![0, 1] bcast_S8x16_S8x16x1_0_1 : (⟨S8x16, .i32⟩ : BufTy).Contents (Elt F) → (⟨S8x16x1, .i32⟩ : BufTy).Contents (Elt F)),
    unary main_arg1 main_v10 ((extractStridedSlice S8x16x1 ![0, 0, 0] · slices_S8x16x2_S8x16x1_0_0_0) : (⟨S8x16x2, .i32⟩ : BufTy).Contents (Elt F) → (⟨S8x16x1, .i32⟩ : BufTy).Contents (Elt F)),
    reshape main_v10 main_v11 (rfl : (.i32 : EltTy) = .i32) shapeCasts_S8x16x1_S8x16,
    unary main_v11 main_v12 (broadcastInDim S8x1x16 ![0, 2] bcast_S8x16_S8x1x16_0_2 : (⟨S8x16, .i32⟩ : BufTy).Contents (Elt F) → (⟨S8x1x16, .i32⟩ : BufTy).Contents (Elt F)),
    unary main_arg1 main_v13 ((extractStridedSlice S8x16x1 ![0, 0, 1] · slices_S8x16x2_S8x16x1_0_0_1) : (⟨S8x16x2, .i32⟩ : BufTy).Contents (Elt F) → (⟨S8x16x1, .i32⟩ : BufTy).Contents (Elt F)),
    reshape main_v13 main_v14 (rfl : (.i32 : EltTy) = .i32) shapeCasts_S8x16x1_S8x16,
    unary main_v14 main_v15 (broadcastInDim S8x1x16 ![0, 2] bcast_S8x16_S8x1x16_0_2 : (⟨S8x16, .i32⟩ : BufTy).Contents (Elt F) → (⟨S8x1x16, .i32⟩ : BufTy).Contents (Elt F)),
    unary main_v9 main_v16 (broadcastInDim S8x16x16 ![0, 1, 2] bcast_S8x16x1_S8x16x16_0_1_2 : (⟨S8x16x1, .i32⟩ : BufTy).Contents (Elt F) → (⟨S8x16x16, .i32⟩ : BufTy).Contents (Elt F)),
    unary main_v15 main_v17 (broadcastInDim S8x16x16 ![0, 1, 2] bcast_S8x1x16_S8x16x16_0_1_2 : (⟨S8x1x16, .i32⟩ : BufTy).Contents (Elt F) → (⟨S8x16x16, .i32⟩ : BufTy).Contents (Elt F)),
    binary main_v16 main_v17 main_v18 (minsi : (⟨S8x16x16, .i32⟩ : BufTy).Contents (Elt F) → (⟨S8x16x16, .i32⟩ : BufTy).Contents (Elt F) → (⟨S8x16x16, .i32⟩ : BufTy).Contents (Elt F)),
    unary main_v6 main_v19 (broadcastInDim S8x16x16 ![0, 1, 2] bcast_S8x16x1_S8x16x16_0_1_2 : (⟨S8x16x1, .i32⟩ : BufTy).Contents (Elt F) → (⟨S8x16x16, .i32⟩ : BufTy).Contents (Elt F)),
    unary main_v12 main_v20 (broadcastInDim S8x16x16 ![0, 1, 2] bcast_S8x1x16_S8x16x16_0_1_2 : (⟨S8x1x16, .i32⟩ : BufTy).Contents (Elt F) → (⟨S8x16x16, .i32⟩ : BufTy).Contents (Elt F)),
    binary main_v19 main_v20 main_v21 (maxsi : (⟨S8x16x16, .i32⟩ : BufTy).Contents (Elt F) → (⟨S8x16x16, .i32⟩ : BufTy).Contents (Elt F) → (⟨S8x16x16, .i32⟩ : BufTy).Contents (Elt F)),
    binary main_v18 main_v21 main_v22 (cmpi .slt : (⟨S8x16x16, .i32⟩ : BufTy).Contents (Elt F) → (⟨S8x16x16, .i32⟩ : BufTy).Contents (Elt F) → (⟨S8x16x16, .i1⟩ : BufTy).Contents (Elt F)),
    nullary main_v23 (iotaInDim S2048 32 0),
    unary main_v23 main_v24 (broadcastInDim S1x1x1x2048 ![3] bcast_S2048_S1x1x1x2048_3 : (⟨S2048, .i32⟩ : BufTy).Contents (Elt F) → (⟨S1x1x1x2048, .i32⟩ : BufTy).Contents (Elt F)),
    unary main_v18 main_v25 (broadcastInDim S8x16x16x1 ![0, 1, 2] bcast_S8x16x16_S8x16x16x1_0_1_2 : (⟨S8x16x16, .i32⟩ : BufTy).Contents (Elt F) → (⟨S8x16x16x1, .i32⟩ : BufTy).Contents (Elt F)),
    unary main_v24 main_v26 (broadcastInDim S8x16x16x2048 ![0, 1, 2, 3] bcast_S1x1x1x2048_S8x16x16x2048_0_1_2_3 : (⟨S1x1x1x2048, .i32⟩ : BufTy).Contents (Elt F) → (⟨S8x16x16x2048, .i32⟩ : BufTy).Contents (Elt F)),
    unary main_v25 main_v27 (broadcastInDim S8x16x16x2048 ![0, 1, 2, 3] bcast_S8x16x16x1_S8x16x16x2048_0_1_2_3 : (⟨S8x16x16x1, .i32⟩ : BufTy).Contents (Elt F) → (⟨S8x16x16x2048, .i32⟩ : BufTy).Contents (Elt F)),
    binary main_v26 main_v27 main_v28 (cmpi .sge : (⟨S8x16x16x2048, .i32⟩ : BufTy).Contents (Elt F) → (⟨S8x16x16x2048, .i32⟩ : BufTy).Contents (Elt F) → (⟨S8x16x16x2048, .i1⟩ : BufTy).Contents (Elt F)),
    unary main_v23 main_v29 (broadcastInDim S1x1x1x2048 ![3] bcast_S2048_S1x1x1x2048_3 : (⟨S2048, .i32⟩ : BufTy).Contents (Elt F) → (⟨S1x1x1x2048, .i32⟩ : BufTy).Contents (Elt F)),
    unary main_v21 main_v30 (broadcastInDim S8x16x16x1 ![0, 1, 2] bcast_S8x16x16_S8x16x16x1_0_1_2 : (⟨S8x16x16, .i32⟩ : BufTy).Contents (Elt F) → (⟨S8x16x16x1, .i32⟩ : BufTy).Contents (Elt F)),
    unary main_v29 main_v31 (broadcastInDim S8x16x16x2048 ![0, 1, 2, 3] bcast_S1x1x1x2048_S8x16x16x2048_0_1_2_3 : (⟨S1x1x1x2048, .i32⟩ : BufTy).Contents (Elt F) → (⟨S8x16x16x2048, .i32⟩ : BufTy).Contents (Elt F)),
    unary main_v30 main_v32 (broadcastInDim S8x16x16x2048 ![0, 1, 2, 3] bcast_S8x16x16x1_S8x16x16x2048_0_1_2_3 : (⟨S8x16x16x1, .i32⟩ : BufTy).Contents (Elt F) → (⟨S8x16x16x2048, .i32⟩ : BufTy).Contents (Elt F)),
    binary main_v31 main_v32 main_v33 (cmpi .slt : (⟨S8x16x16x2048, .i32⟩ : BufTy).Contents (Elt F) → (⟨S8x16x16x2048, .i32⟩ : BufTy).Contents (Elt F) → (⟨S8x16x16x2048, .i1⟩ : BufTy).Contents (Elt F)),
    binary main_v28 main_v33 main_v34 (andi : (⟨S8x16x16x2048, .i1⟩ : BufTy).Contents (Elt F) → (⟨S8x16x16x2048, .i1⟩ : BufTy).Contents (Elt F) → (⟨S8x16x16x2048, .i1⟩ : BufTy).Contents (Elt F)),
    unary main_arg3 main_v35 (broadcastInDim S8x1x1x2048 ![0, 3] bcast_S8x2048_S8x1x1x2048_0_3 : (⟨S8x2048, .i1⟩ : BufTy).Contents (Elt F) → (⟨S8x1x1x2048, .i1⟩ : BufTy).Contents (Elt F)),
    unary main_v35 main_v36 (broadcastInDim S8x16x16x2048 ![0, 1, 2, 3] bcast_S8x1x1x2048_S8x16x16x2048_0_1_2_3 : (⟨S8x1x1x2048, .i1⟩ : BufTy).Contents (Elt F) → (⟨S8x16x16x2048, .i1⟩ : BufTy).Contents (Elt F)),
    binary main_v34 main_v36 main_v37 (andi : (⟨S8x16x16x2048, .i1⟩ : BufTy).Contents (Elt F) → (⟨S8x16x16x2048, .i1⟩ : BufTy).Contents (Elt F) → (⟨S8x16x16x2048, .i1⟩ : BufTy).Contents (Elt F)),
    unary main_v37 main_v38 (broadcastInDim S8x16x16x2048x1 ![0, 1, 2, 3] bcast_S8x16x16x2048_S8x16x16x2048x1_0_1_2_3 : (⟨S8x16x16x2048, .i1⟩ : BufTy).Contents (Elt F) → (⟨S8x16x16x2048x1, .i1⟩ : BufTy).Contents (Elt F)),
    unary main_arg2 main_v39 (broadcastInDim S8x1x1x2048x256 ![0, 3, 4] bcast_S8x2048x256_S8x1x1x2048x256_0_3_4 : (⟨S8x2048x256, .f32⟩ : BufTy).Contents (Elt F) → (⟨S8x1x1x2048x256, .f32⟩ : BufTy).Contents (Elt F)),
    nullary main_cst (constant S_ .f32 0xFF800000#32),
    TRef.unary (TRef.of (T := ⟨S_, .f32⟩) main_cst) (TRef.of (T := ⟨S_, .f32⟩) main_call0_v0) id,
    TRef.unary (TRef.of (T := ⟨S8x16x16x2048x1, .i1⟩) main_v38) (TRef.of (T := ⟨S8x16x16x2048x256, .i1⟩) main_call0_v1) (broadcastInDim S8x16x16x2048x256 ![0, 1, 2, 3, 4] bcast_S8x16x16x2048x1_S8x16x16x2048x256_0_1_2_3_4),
    TRef.unary (TRef.of (T := ⟨S8x1x1x2048x256, .f32⟩) main_v39) (TRef.of (T := ⟨S8x16x16x2048x256, .f32⟩) main_call0_v2) (broadcastInDim S8x16x16x2048x256 ![0, 1, 2, 3, 4] bcast_S8x1x1x2048x256_S8x16x16x2048x256_0_1_2_3_4),
    TRef.unary (TRef.of (T := ⟨S_, .f32⟩) main_call0_v0) (TRef.of (T := ⟨S8x16x16x2048x256, .f32⟩) main_call0_v3) (broadcastInDim S8x16x16x2048x256 ![] bcast_S_S8x16x16x2048x256),
    TRef.ternary (TRef.of (T := ⟨S8x16x16x2048x256, .i1⟩) main_call0_v1) (TRef.of (T := ⟨S8x16x16x2048x256, .f32⟩) main_call0_v2) (TRef.of (T := ⟨S8x16x16x2048x256, .f32⟩) main_call0_v3) (TRef.of (T := ⟨S8x16x16x2048x256, .f32⟩) main_v40) select,
    TRef.nullary (TRef.of (T := ⟨S8x16x16x2048x256, .i32⟩) main_call1_v0) (iotaInDim S8x16x16x2048x256 32 3),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S8x16x16x2048x256, .f32⟩) main_v40) (TRef.of (T := ⟨S8x16x16x2048x256, .i32⟩) main_call1_v0) (TRef.of (T := ⟨S_, .f32⟩) main_call1_cst) (TRef.of (T := ⟨S_, .i32⟩) main_call1_c) (TRef.of (T := ⟨S8x16x16x256, .f32⟩) main_call1_v1_0) (fun x y u v j => (Host.argReduce reducer_argmax_f32_i32 x y u v reducesTo_S8x16x16x2048x256_S8x16x16x256_d3 h_S_ j).1),
    TRef.quaternary (TRef.of (T := ⟨S8x16x16x2048x256, .f32⟩) main_v40) (TRef.of (T := ⟨S8x16x16x2048x256, .i32⟩) main_call1_v0) (TRef.of (T := ⟨S_, .f32⟩) main_call1_cst) (TRef.of (T := ⟨S_, .i32⟩) main_call1_c) (TRef.of (T := ⟨S8x16x16x256, .i32⟩) main_v41) (fun x y u v j => (Host.argReduce reducer_argmax_f32_i32 x y u v reducesTo_S8x16x16x2048x256_S8x16x16x256_d3 h_S_ j).2),
    unary main_arg2 main_v42 (broadcastInDim S8x1x1x2048x256 ![0, 3, 4] bcast_S8x2048x256_S8x1x1x2048x256_0_3_4 : (⟨S8x2048x256, .f32⟩ : BufTy).Contents (Elt F) → (⟨S8x1x1x2048x256, .f32⟩ : BufTy).Contents (Elt F)),
    unary main_v42 main_v43 (broadcastInDim S8x16x16x2048x256 ![0, 1, 2, 3, 4] bcast_S8x1x1x2048x256_S8x16x16x2048x256_0_1_2_3_4 : (⟨S8x1x1x2048x256, .f32⟩ : BufTy).Contents (Elt F) → (⟨S8x16x16x2048x256, .f32⟩ : BufTy).Contents (Elt F)),
    unary main_v41 main_v44 (broadcastInDim S8x16x16x1x256 ![0, 1, 2, 4] bcast_S8x16x16x256_S8x16x16x1x256_0_1_2_4 : (⟨S8x16x16x256, .i32⟩ : BufTy).Contents (Elt F) → (⟨S8x16x16x1x256, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S8x16x16x1x256, .i32⟩) main_call2_v0) (broadcastInDim S8x16x16x1x256 ![] bcast_S_S8x16x16x1x256),
    TRef.binary (TRef.of (T := ⟨S8x16x16x1x256, .i32⟩) main_v44) (TRef.of (T := ⟨S8x16x16x1x256, .i32⟩) main_call2_v0) (TRef.of (T := ⟨S8x16x16x1x256, .i1⟩) main_call2_v1) (cmpi .slt),
    TRef.nullary (TRef.of (T := ⟨S_, .i32⟩) main_call2_c_0) (constantI S_ 32 2048#32),
    TRef.unary (TRef.of (T := ⟨S_, .i32⟩) main_call2_c_0) (TRef.of (T := ⟨S8x16x16x1x256, .i32⟩) main_call2_v2) (broadcastInDim S8x16x16x1x256 ![] bcast_S_S8x16x16x1x256),
    TRef.binary (TRef.of (T := ⟨S8x16x16x1x256, .i32⟩) main_v44) (TRef.of (T := ⟨S8x16x16x1x256, .i32⟩) main_call2_v2) (TRef.of (T := ⟨S8x16x16x1x256, .i32⟩) main_call2_v3) addi,
    TRef.ternary (TRef.of (T := ⟨S8x16x16x1x256, .i1⟩) main_call2_v1) (TRef.of (T := ⟨S8x16x16x1x256, .i32⟩) main_call2_v3) (TRef.of (T := ⟨S8x16x16x1x256, .i32⟩) main_v44) (TRef.of (T := ⟨S8x16x16x1x256, .i32⟩) main_call2_v4) select,
    TRef.reshape (TRef.of (T := ⟨S8x16x16x1x256, .i32⟩) main_call2_v4) (TRef.of (T := ⟨S8x16x16x1x256x1, .i32⟩) main_call2_v5) (rfl : (.i32 : EltTy) = .i32) shapeCasts_S8x16x16x1x256_S8x16x16x1x256x1,
    TRef.nullary (TRef.of (T := ⟨S1, .i32⟩) main_call2_c_1) (constantI S1 32 2047#32),
    TRef.nullary (TRef.of (T := ⟨S_, .i32⟩) main_call2_c_2) (constantI S_ 32 0#32),
    TRef.unary (TRef.of (T := ⟨S_, .i32⟩) main_call2_c_2) (TRef.of (T := ⟨S8x16x16x1x256x1, .i32⟩) main_call2_v6) (broadcastInDim S8x16x16x1x256x1 ![] bcast_S_S8x16x16x1x256x1),
    TRef.binary (TRef.of (T := ⟨S8x16x16x1x256x1, .i32⟩) main_call2_v5) (TRef.of (T := ⟨S8x16x16x1x256x1, .i32⟩) main_call2_v6) (TRef.of (T := ⟨S8x16x16x1x256x1, .i1⟩) main_call2_v7) (cmpi .sge),
    TRef.unary (TRef.of (T := ⟨S1, .i32⟩) main_call2_c_1) (TRef.of (T := ⟨S1x1x1x1x1x1, .i32⟩) main_call2_v8) (broadcastInDim S1x1x1x1x1x1 ![5] bcast_S1_S1x1x1x1x1x1_5),
    TRef.unary (TRef.of (T := ⟨S1x1x1x1x1x1, .i32⟩) main_call2_v8) (TRef.of (T := ⟨S8x16x16x1x256x1, .i32⟩) main_call2_v9) (broadcastInDim S8x16x16x1x256x1 ![0, 1, 2, 3, 4, 5] bcast_S1x1x1x1x1x1_S8x16x16x1x256x1_0_1_2_3_4_5),
    TRef.binary (TRef.of (T := ⟨S8x16x16x1x256x1, .i32⟩) main_call2_v5) (TRef.of (T := ⟨S8x16x16x1x256x1, .i32⟩) main_call2_v9) (TRef.of (T := ⟨S8x16x16x1x256x1, .i1⟩) main_call2_v10) (cmpi .sle),
    TRef.binary (TRef.of (T := ⟨S8x16x16x1x256x1, .i1⟩) main_call2_v7) (TRef.of (T := ⟨S8x16x16x1x256x1, .i1⟩) main_call2_v10) (TRef.of (T := ⟨S8x16x16x1x256x1, .i1⟩) main_call2_v11) andi,
    TRef.nullary (TRef.of (T := ⟨S_, .i1⟩) main_call2_c_3) (constantI S_ 1 1#1),
    TRef.binary (TRef.of (T := ⟨S8x16x16x1x256x1, .i1⟩) main_call2_v11) (TRef.of (T := ⟨S_, .i1⟩) main_call2_c_3) (TRef.of (T := ⟨S8x16x16x1x256, .i1⟩) main_call2_v12) (fun x v => Host.reduce IntOp.andi x v reducesTo_S8x16x16x1x256x1_S8x16x16x1x256_d5 h_S_),
    TRef.binary (TRef.of (T := ⟨S8x16x16x2048x256, .f32⟩) main_v43) (TRef.of (T := ⟨S8x16x16x1x256x1, .i32⟩) main_call2_v5) (TRef.of (T := ⟨S8x16x16x1x256, .f32⟩) main_call2_v13) (fun x i => Host.gather gather_S8x16x16x2048x256_S8x16x16x1x256x1_S8x16x16x1x256_n_3_0124_0124_3_5_11111 x i),
    TRef.nullary (TRef.of (T := ⟨S_, .f32⟩) main_call2_cst) (constant S_ .f32 0x7FC00000#32),
    TRef.unary (TRef.of (T := ⟨S_, .f32⟩) main_call2_cst) (TRef.of (T := ⟨S8x16x16x1x256, .f32⟩) main_call2_v14) (broadcastInDim S8x16x16x1x256 ![] bcast_S_S8x16x16x1x256),
    TRef.ternary (TRef.of (T := ⟨S8x16x16x1x256, .i1⟩) main_call2_v12) (TRef.of (T := ⟨S8x16x16x1x256, .f32⟩) main_call2_v13) (TRef.of (T := ⟨S8x16x16x1x256, .f32⟩) main_call2_v14) (TRef.of (T := ⟨S8x16x16x1x256, .f32⟩) main_v45) select,
    reshape main_v45 main_v46 (rfl : (.f32 : EltTy) = .f32) shapeCasts_S8x16x16x1x256_S8x16x16x256,
    nullary main_c (constantI S_ 1 0#1),
    binary main_v37 main_c main_v47 ((fun x v => Host.reduce IntOp.ori x v reducesTo_S8x16x16x2048_S8x16x16_d3 h_S_) : (⟨S8x16x16x2048, .i1⟩ : BufTy).Contents (Elt F) → (⟨S_, .i1⟩ : BufTy).Contents (Elt F) → (⟨S8x16x16, .i1⟩ : BufTy).Contents (Elt F)),
    unary main_v47 main_v48 (broadcastInDim S8x16x16x1 ![0, 1, 2] bcast_S8x16x16_S8x16x16x1_0_1_2 : (⟨S8x16x16, .i1⟩ : BufTy).Contents (Elt F) → (⟨S8x16x16x1, .i1⟩ : BufTy).Contents (Elt F)),
    nullary main_cst_0 (constant S_ .f32 0xFF800000#32),
    TRef.unary (TRef.of (T := ⟨S_, .f32⟩) main_cst_0) (TRef.of (T := ⟨S_, .f32⟩) main_call3_v0) id,
    TRef.unary (TRef.of (T := ⟨S8x16x16x1, .i1⟩) main_v48) (TRef.of (T := ⟨S8x16x16x256, .i1⟩) main_call3_v1) (broadcastInDim S8x16x16x256 ![0, 1, 2, 3] bcast_S8x16x16x1_S8x16x16x256_0_1_2_3),
    TRef.unary (TRef.of (T := ⟨S_, .f32⟩) main_call3_v0) (TRef.of (T := ⟨S8x16x16x256, .f32⟩) main_call3_v2) (broadcastInDim S8x16x16x256 ![] bcast_S_S8x16x16x256),
    TRef.ternary (TRef.of (T := ⟨S8x16x16x256, .i1⟩) main_call3_v1) (TRef.of (T := ⟨S8x16x16x256, .f32⟩) main_v46) (TRef.of (T := ⟨S8x16x16x256, .f32⟩) main_call3_v2) (TRef.of (T := ⟨S8x16x16x256, .f32⟩) main_v49) select,
    unary main_v22 main_v50 (broadcastInDim S8x16x16x1 ![0, 1, 2] bcast_S8x16x16_S8x16x16x1_0_1_2 : (⟨S8x16x16, .i1⟩ : BufTy).Contents (Elt F) → (⟨S8x16x16x1, .i1⟩ : BufTy).Contents (Elt F)),
    TRef.unary (TRef.of (T := ⟨S8x16x16x1, .i1⟩) main_v50) (TRef.of (T := ⟨S8x16x16x256, .i1⟩) main_call4_v0) (broadcastInDim S8x16x16x256 ![0, 1, 2, 3] bcast_S8x16x16x1_S8x16x16x256_0_1_2_3),
    TRef.ternary (TRef.of (T := ⟨S8x16x16x256, .i1⟩) main_call4_v0) (TRef.of (T := ⟨S8x16x16x256, .f32⟩) main_v49) (TRef.of (T := ⟨S8x16x16x256, .f32⟩) main_v1) (TRef.of (T := ⟨S8x16x16x256, .f32⟩) main_v51) select,
    nary ![main_v1, main_v3, main_v51] main_v52 (fun u => fn_main_v52 (F := F) (u 0) (u 1) (u 2)),
    binary main_v52 main_arg4 main_v53 ((fun l r => Host.dotGeneral dot_S8x16x16x768_S768x1152_S8x16x16x1152_3_0_012_1_n_n none l r) : (⟨S8x16x16x768, .f32⟩ : BufTy).Contents (Elt F) → (⟨S768x1152, .f32⟩ : BufTy).Contents (Elt F) → (⟨S8x16x16x1152, .f32⟩ : BufTy).Contents (Elt F)),
    unary main_arg5 main_v54 (broadcastInDim S1x1x1x1152 ![3] bcast_S1152_S1x1x1x1152_3 : (⟨S1152, .f32⟩ : BufTy).Contents (Elt F) → (⟨S1x1x1x1152, .f32⟩ : BufTy).Contents (Elt F)),
    unary main_v54 main_v55 (broadcastInDim S8x16x16x1152 ![0, 1, 2, 3] bcast_S1x1x1x1152_S8x16x16x1152_0_1_2_3 : (⟨S1x1x1x1152, .f32⟩ : BufTy).Contents (Elt F) → (⟨S8x16x16x1152, .f32⟩ : BufTy).Contents (Elt F)),
    binary main_v53 main_v55 main_v56 (addf : (⟨S8x16x16x1152, .f32⟩ : BufTy).Contents (Elt F) → (⟨S8x16x16x1152, .f32⟩ : BufTy).Contents (Elt F) → (⟨S8x16x16x1152, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S8x16x16x1152, .f32⟩) main_call5_v0) (broadcastInDim S8x16x16x1152 ![] bcast_S_S8x16x16x1152),
    TRef.binary (TRef.of (T := ⟨S8x16x16x1152, .f32⟩) main_v56) (TRef.of (T := ⟨S8x16x16x1152, .f32⟩) main_call5_v0) (TRef.of (T := ⟨S8x16x16x1152, .f32⟩) main_v57) maximumf,
    binary main_v57 main_arg6 main_v58 ((fun l r => Host.dotGeneral dot_S8x16x16x1152_S1152x256_S8x16x16x256_3_0_012_1_n_n none l r) : (⟨S8x16x16x1152, .f32⟩ : BufTy).Contents (Elt F) → (⟨S1152x256, .f32⟩ : BufTy).Contents (Elt F) → (⟨S8x16x16x256, .f32⟩ : BufTy).Contents (Elt F)),
    unary main_arg7 main_v59 (broadcastInDim S1x1x1x256 ![3] bcast_S256_S1x1x1x256_3 : (⟨S256, .f32⟩ : BufTy).Contents (Elt F) → (⟨S1x1x1x256, .f32⟩ : BufTy).Contents (Elt F)),
    unary main_v59 main_v60 (broadcastInDim S8x16x16x256 ![0, 1, 2, 3] bcast_S1x1x1x256_S8x16x16x256_0_1_2_3 : (⟨S1x1x1x256, .f32⟩ : BufTy).Contents (Elt F) → (⟨S8x16x16x256, .f32⟩ : BufTy).Contents (Elt F)),
    binary main_v58 main_v60 main_v61 (addf : (⟨S8x16x16x256, .f32⟩ : BufTy).Contents (Elt F) → (⟨S8x16x16x256, .f32⟩ : BufTy).Contents (Elt F) → (⟨S8x16x16x256, .f32⟩ : BufTy).Contents (Elt F)),
    reshape main_v61 main_v62 (rfl : (.f32 : EltTy) = .f32) shapeCasts_S8x16x16x256_S8x256x256 ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., unary_bufs_sub .., unary_bufs_sub .., unary_bufs_sub .., reshape_bufs_sub .., unary_bufs_sub .., unary_bufs_sub .., reshape_bufs_sub .., unary_bufs_sub .., unary_bufs_sub .., reshape_bufs_sub .., unary_bufs_sub .., unary_bufs_sub .., reshape_bufs_sub .., unary_bufs_sub .., unary_bufs_sub .., unary_bufs_sub .., binary_bufs_sub .., unary_bufs_sub .., unary_bufs_sub .., binary_bufs_sub .., binary_bufs_sub .., nullary_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., unary_bufs_sub .., unary_bufs_sub .., binary_bufs_sub .., unary_bufs_sub .., unary_bufs_sub .., nullary_bufs_sub .., unary_bufs_sub .., unary_bufs_sub .., unary_bufs_sub .., unary_bufs_sub .., ternary_bufs_sub .., nullary_bufs_sub .., nullary_bufs_sub .., nullary_bufs_sub .., quaternary_bufs_sub .., quaternary_bufs_sub .., unary_bufs_sub .., unary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., nullary_bufs_sub .., binary_bufs_sub .., unary_bufs_sub .., nullary_bufs_sub .., unary_bufs_sub .., unary_bufs_sub .., unary_bufs_sub .., ternary_bufs_sub .., unary_bufs_sub .., unary_bufs_sub .., ternary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub ..⟩

set_option maxRecDepth 8192 in
/-- `main_v62`'s composed term of the arguments (named: it is long). -/
def res_main_v62 (m : (ℓ : Loc nD τ sig) → Buf (Elt F) ℓ) (c : Dev nD) : Buf (Elt F) ((c.tc : Thread nD τ).loc main_v62) :=
  shapeCast _ (addf (Host.dotGeneral dot_S8x16x16x1152_S1152x256_S8x16x16x256_3_0_012_1_n_n none (maximumf (addf (Host.dotGeneral dot_S8x16x16x768_S768x1152_S8x16x16x1152_3_0_012_1_n_n none ((concatenate S8x16x16x768 3 [⟨S8x16x16x256, ((broadcastInDim S8x16x16x256 ![0, 1, 2, 3] bcast_S8x16x1x256_S8x16x16x256_0_1_2_3 (broadcastInDim S8x16x1x256 ![0, 1, 3] bcast_S8x16x256_S8x16x1x256_0_1_3 (m ((c.tc : Thread nD τ).loc main_arg0)))) : (⟨S8x16x16x256, .f32⟩ : BufTy).Contents (Elt F))⟩, ⟨S8x16x16x256, ((broadcastInDim S8x16x16x256 ![0, 1, 2, 3] bcast_S8x1x16x256_S8x16x16x256_0_1_2_3 (broadcastInDim S8x1x16x256 ![0, 2, 3] bcast_S8x16x256_S8x1x16x256_0_2_3 (m ((c.tc : Thread nD τ).loc main_arg0)))) : (⟨S8x16x16x256, .f32⟩ : BufTy).Contents (Elt F))⟩, ⟨S8x16x16x256, ((select (broadcastInDim S8x16x16x256 ![0, 1, 2, 3] bcast_S8x16x16x1_S8x16x16x256_0_1_2_3 (broadcastInDim S8x16x16x1 ![0, 1, 2] bcast_S8x16x16_S8x16x16x1_0_1_2 (cmpi .slt (minsi (broadcastInDim S8x16x16 ![0, 1, 2] bcast_S8x16x1_S8x16x16_0_1_2 (broadcastInDim S8x16x1 ![0, 1] bcast_S8x16_S8x16x1_0_1 (shapeCast _ (extractStridedSlice S8x16x1 ![0, 0, 1] (m ((c.tc : Thread nD τ).loc main_arg1)) slices_S8x16x2_S8x16x1_0_0_1) shapeCasts_S8x16x1_S8x16))) (broadcastInDim S8x16x16 ![0, 1, 2] bcast_S8x1x16_S8x16x16_0_1_2 (broadcastInDim S8x1x16 ![0, 2] bcast_S8x16_S8x1x16_0_2 (shapeCast _ (extractStridedSlice S8x16x1 ![0, 0, 1] (m ((c.tc : Thread nD τ).loc main_arg1)) slices_S8x16x2_S8x16x1_0_0_1) shapeCasts_S8x16x1_S8x16)))) (maxsi (broadcastInDim S8x16x16 ![0, 1, 2] bcast_S8x16x1_S8x16x16_0_1_2 (broadcastInDim S8x16x1 ![0, 1] bcast_S8x16_S8x16x1_0_1 (shapeCast _ (extractStridedSlice S8x16x1 ![0, 0, 0] (m ((c.tc : Thread nD τ).loc main_arg1)) slices_S8x16x2_S8x16x1_0_0_0) shapeCasts_S8x16x1_S8x16))) (broadcastInDim S8x16x16 ![0, 1, 2] bcast_S8x1x16_S8x16x16_0_1_2 (broadcastInDim S8x1x16 ![0, 2] bcast_S8x16_S8x1x16_0_2 (shapeCast _ (extractStridedSlice S8x16x1 ![0, 0, 0] (m ((c.tc : Thread nD τ).loc main_arg1)) slices_S8x16x2_S8x16x1_0_0_0) shapeCasts_S8x16x1_S8x16))))))) (select (broadcastInDim S8x16x16x256 ![0, 1, 2, 3] bcast_S8x16x16x1_S8x16x16x256_0_1_2_3 (broadcastInDim S8x16x16x1 ![0, 1, 2] bcast_S8x16x16_S8x16x16x1_0_1_2 (Host.reduce IntOp.ori (andi (andi (cmpi .sge (broadcastInDim S8x16x16x2048 ![0, 1, 2, 3] bcast_S1x1x1x2048_S8x16x16x2048_0_1_2_3 (broadcastInDim S1x1x1x2048 ![3] bcast_S2048_S1x1x1x2048_3 (iotaInDim S2048 32 0))) (broadcastInDim S8x16x16x2048 ![0, 1, 2, 3] bcast_S8x16x16x1_S8x16x16x2048_0_1_2_3 (broadcastInDim S8x16x16x1 ![0, 1, 2] bcast_S8x16x16_S8x16x16x1_0_1_2 (minsi (broadcastInDim S8x16x16 ![0, 1, 2] bcast_S8x16x1_S8x16x16_0_1_2 (broadcastInDim S8x16x1 ![0, 1] bcast_S8x16_S8x16x1_0_1 (shapeCast _ (extractStridedSlice S8x16x1 ![0, 0, 1] (m ((c.tc : Thread nD τ).loc main_arg1)) slices_S8x16x2_S8x16x1_0_0_1) shapeCasts_S8x16x1_S8x16))) (broadcastInDim S8x16x16 ![0, 1, 2] bcast_S8x1x16_S8x16x16_0_1_2 (broadcastInDim S8x1x16 ![0, 2] bcast_S8x16_S8x1x16_0_2 (shapeCast _ (extractStridedSlice S8x16x1 ![0, 0, 1] (m ((c.tc : Thread nD τ).loc main_arg1)) slices_S8x16x2_S8x16x1_0_0_1) shapeCasts_S8x16x1_S8x16))))))) (cmpi .slt (broadcastInDim S8x16x16x2048 ![0, 1, 2, 3] bcast_S1x1x1x2048_S8x16x16x2048_0_1_2_3 (broadcastInDim S1x1x1x2048 ![3] bcast_S2048_S1x1x1x2048_3 (iotaInDim S2048 32 0))) (broadcastInDim S8x16x16x2048 ![0, 1, 2, 3] bcast_S8x16x16x1_S8x16x16x2048_0_1_2_3 (broadcastInDim S8x16x16x1 ![0, 1, 2] bcast_S8x16x16_S8x16x16x1_0_1_2 (maxsi (broadcastInDim S8x16x16 ![0, 1, 2] bcast_S8x16x1_S8x16x16_0_1_2 (broadcastInDim S8x16x1 ![0, 1] bcast_S8x16_S8x16x1_0_1 (shapeCast _ (extractStridedSlice S8x16x1 ![0, 0, 0] (m ((c.tc : Thread nD τ).loc main_arg1)) slices_S8x16x2_S8x16x1_0_0_0) shapeCasts_S8x16x1_S8x16))) (broadcastInDim S8x16x16 ![0, 1, 2] bcast_S8x1x16_S8x16x16_0_1_2 (broadcastInDim S8x1x16 ![0, 2] bcast_S8x16_S8x1x16_0_2 (shapeCast _ (extractStridedSlice S8x16x1 ![0, 0, 0] (m ((c.tc : Thread nD τ).loc main_arg1)) slices_S8x16x2_S8x16x1_0_0_0) shapeCasts_S8x16x1_S8x16)))))))) (broadcastInDim S8x16x16x2048 ![0, 1, 2, 3] bcast_S8x1x1x2048_S8x16x16x2048_0_1_2_3 (broadcastInDim S8x1x1x2048 ![0, 3] bcast_S8x2048_S8x1x1x2048_0_3 (m ((c.tc : Thread nD τ).loc main_arg3))))) (constantI S_ 1 0#1) reducesTo_S8x16x16x2048_S8x16x16_d3 h_S_))) (shapeCast _ (select (Host.reduce IntOp.andi (andi (cmpi .sge (shapeCast _ (select (cmpi .slt (broadcastInDim S8x16x16x1x256 ![0, 1, 2, 4] bcast_S8x16x16x256_S8x16x16x1x256_0_1_2_4 (fun j => (Host.argReduce reducer_argmax_f32_i32 (select (broadcastInDim S8x16x16x2048x256 ![0, 1, 2, 3, 4] bcast_S8x16x16x2048x1_S8x16x16x2048x256_0_1_2_3_4 (broadcastInDim S8x16x16x2048x1 ![0, 1, 2, 3] bcast_S8x16x16x2048_S8x16x16x2048x1_0_1_2_3 (andi (andi (cmpi .sge (broadcastInDim S8x16x16x2048 ![0, 1, 2, 3] bcast_S1x1x1x2048_S8x16x16x2048_0_1_2_3 (broadcastInDim S1x1x1x2048 ![3] bcast_S2048_S1x1x1x2048_3 (iotaInDim S2048 32 0))) (broadcastInDim S8x16x16x2048 ![0, 1, 2, 3] bcast_S8x16x16x1_S8x16x16x2048_0_1_2_3 (broadcastInDim S8x16x16x1 ![0, 1, 2] bcast_S8x16x16_S8x16x16x1_0_1_2 (minsi (broadcastInDim S8x16x16 ![0, 1, 2] bcast_S8x16x1_S8x16x16_0_1_2 (broadcastInDim S8x16x1 ![0, 1] bcast_S8x16_S8x16x1_0_1 (shapeCast _ (extractStridedSlice S8x16x1 ![0, 0, 1] (m ((c.tc : Thread nD τ).loc main_arg1)) slices_S8x16x2_S8x16x1_0_0_1) shapeCasts_S8x16x1_S8x16))) (broadcastInDim S8x16x16 ![0, 1, 2] bcast_S8x1x16_S8x16x16_0_1_2 (broadcastInDim S8x1x16 ![0, 2] bcast_S8x16_S8x1x16_0_2 (shapeCast _ (extractStridedSlice S8x16x1 ![0, 0, 1] (m ((c.tc : Thread nD τ).loc main_arg1)) slices_S8x16x2_S8x16x1_0_0_1) shapeCasts_S8x16x1_S8x16))))))) (cmpi .slt (broadcastInDim S8x16x16x2048 ![0, 1, 2, 3] bcast_S1x1x1x2048_S8x16x16x2048_0_1_2_3 (broadcastInDim S1x1x1x2048 ![3] bcast_S2048_S1x1x1x2048_3 (iotaInDim S2048 32 0))) (broadcastInDim S8x16x16x2048 ![0, 1, 2, 3] bcast_S8x16x16x1_S8x16x16x2048_0_1_2_3 (broadcastInDim S8x16x16x1 ![0, 1, 2] bcast_S8x16x16_S8x16x16x1_0_1_2 (maxsi (broadcastInDim S8x16x16 ![0, 1, 2] bcast_S8x16x1_S8x16x16_0_1_2 (broadcastInDim S8x16x1 ![0, 1] bcast_S8x16_S8x16x1_0_1 (shapeCast _ (extractStridedSlice S8x16x1 ![0, 0, 0] (m ((c.tc : Thread nD τ).loc main_arg1)) slices_S8x16x2_S8x16x1_0_0_0) shapeCasts_S8x16x1_S8x16))) (broadcastInDim S8x16x16 ![0, 1, 2] bcast_S8x1x16_S8x16x16_0_1_2 (broadcastInDim S8x1x16 ![0, 2] bcast_S8x16_S8x1x16_0_2 (shapeCast _ (extractStridedSlice S8x16x1 ![0, 0, 0] (m ((c.tc : Thread nD τ).loc main_arg1)) slices_S8x16x2_S8x16x1_0_0_0) shapeCasts_S8x16x1_S8x16)))))))) (broadcastInDim S8x16x16x2048 ![0, 1, 2, 3] bcast_S8x1x1x2048_S8x16x16x2048_0_1_2_3 (broadcastInDim S8x1x1x2048 ![0, 3] bcast_S8x2048_S8x1x1x2048_0_3 (m ((c.tc : Thread nD τ).loc main_arg3))))))) (broadcastInDim S8x16x16x2048x256 ![0, 1, 2, 3, 4] bcast_S8x1x1x2048x256_S8x16x16x2048x256_0_1_2_3_4 (broadcastInDim S8x1x1x2048x256 ![0, 3, 4] bcast_S8x2048x256_S8x1x1x2048x256_0_3_4 (m ((c.tc : Thread nD τ).loc main_arg2)))) (broadcastInDim S8x16x16x2048x256 ![] bcast_S_S8x16x16x2048x256 (id (constant S_ .f32 0xFF800000#32)))) (iotaInDim S8x16x16x2048x256 32 3) (constant S_ .f32 0xFF800000#32) (constantI S_ 32 0#32) reducesTo_S8x16x16x2048x256_S8x16x16x256_d3 h_S_ j).2)) (broadcastInDim S8x16x16x1x256 ![] bcast_S_S8x16x16x1x256 (constantI S_ 32 0#32))) (addi (broadcastInDim S8x16x16x1x256 ![0, 1, 2, 4] bcast_S8x16x16x256_S8x16x16x1x256_0_1_2_4 (fun j => (Host.argReduce reducer_argmax_f32_i32 (select (broadcastInDim S8x16x16x2048x256 ![0, 1, 2, 3, 4] bcast_S8x16x16x2048x1_S8x16x16x2048x256_0_1_2_3_4 (broadcastInDim S8x16x16x2048x1 ![0, 1, 2, 3] bcast_S8x16x16x2048_S8x16x16x2048x1_0_1_2_3 (andi (andi (cmpi .sge (broadcastInDim S8x16x16x2048 ![0, 1, 2, 3] bcast_S1x1x1x2048_S8x16x16x2048_0_1_2_3 (broadcastInDim S1x1x1x2048 ![3] bcast_S2048_S1x1x1x2048_3 (iotaInDim S2048 32 0))) (broadcastInDim S8x16x16x2048 ![0, 1, 2, 3] bcast_S8x16x16x1_S8x16x16x2048_0_1_2_3 (broadcastInDim S8x16x16x1 ![0, 1, 2] bcast_S8x16x16_S8x16x16x1_0_1_2 (minsi (broadcastInDim S8x16x16 ![0, 1, 2] bcast_S8x16x1_S8x16x16_0_1_2 (broadcastInDim S8x16x1 ![0, 1] bcast_S8x16_S8x16x1_0_1 (shapeCast _ (extractStridedSlice S8x16x1 ![0, 0, 1] (m ((c.tc : Thread nD τ).loc main_arg1)) slices_S8x16x2_S8x16x1_0_0_1) shapeCasts_S8x16x1_S8x16))) (broadcastInDim S8x16x16 ![0, 1, 2] bcast_S8x1x16_S8x16x16_0_1_2 (broadcastInDim S8x1x16 ![0, 2] bcast_S8x16_S8x1x16_0_2 (shapeCast _ (extractStridedSlice S8x16x1 ![0, 0, 1] (m ((c.tc : Thread nD τ).loc main_arg1)) slices_S8x16x2_S8x16x1_0_0_1) shapeCasts_S8x16x1_S8x16))))))) (cmpi .slt (broadcastInDim S8x16x16x2048 ![0, 1, 2, 3] bcast_S1x1x1x2048_S8x16x16x2048_0_1_2_3 (broadcastInDim S1x1x1x2048 ![3] bcast_S2048_S1x1x1x2048_3 (iotaInDim S2048 32 0))) (broadcastInDim S8x16x16x2048 ![0, 1, 2, 3] bcast_S8x16x16x1_S8x16x16x2048_0_1_2_3 (broadcastInDim S8x16x16x1 ![0, 1, 2] bcast_S8x16x16_S8x16x16x1_0_1_2 (maxsi (broadcastInDim S8x16x16 ![0, 1, 2] bcast_S8x16x1_S8x16x16_0_1_2 (broadcastInDim S8x16x1 ![0, 1] bcast_S8x16_S8x16x1_0_1 (shapeCast _ (extractStridedSlice S8x16x1 ![0, 0, 0] (m ((c.tc : Thread nD τ).loc main_arg1)) slices_S8x16x2_S8x16x1_0_0_0) shapeCasts_S8x16x1_S8x16))) (broadcastInDim S8x16x16 ![0, 1, 2] bcast_S8x1x16_S8x16x16_0_1_2 (broadcastInDim S8x1x16 ![0, 2] bcast_S8x16_S8x1x16_0_2 (shapeCast _ (extractStridedSlice S8x16x1 ![0, 0, 0] (m ((c.tc : Thread nD τ).loc main_arg1)) slices_S8x16x2_S8x16x1_0_0_0) shapeCasts_S8x16x1_S8x16)))))))) (broadcastInDim S8x16x16x2048 ![0, 1, 2, 3] bcast_S8x1x1x2048_S8x16x16x2048_0_1_2_3 (broadcastInDim S8x1x1x2048 ![0, 3] bcast_S8x2048_S8x1x1x2048_0_3 (m ((c.tc : Thread nD τ).loc main_arg3))))))) (broadcastInDim S8x16x16x2048x256 ![0, 1, 2, 3, 4] bcast_S8x1x1x2048x256_S8x16x16x2048x256_0_1_2_3_4 (broadcastInDim S8x1x1x2048x256 ![0, 3, 4] bcast_S8x2048x256_S8x1x1x2048x256_0_3_4 (m ((c.tc : Thread nD τ).loc main_arg2)))) (broadcastInDim S8x16x16x2048x256 ![] bcast_S_S8x16x16x2048x256 (id (constant S_ .f32 0xFF800000#32)))) (iotaInDim S8x16x16x2048x256 32 3) (constant S_ .f32 0xFF800000#32) (constantI S_ 32 0#32) reducesTo_S8x16x16x2048x256_S8x16x16x256_d3 h_S_ j).2)) (broadcastInDim S8x16x16x1x256 ![] bcast_S_S8x16x16x1x256 (constantI S_ 32 2048#32))) (broadcastInDim S8x16x16x1x256 ![0, 1, 2, 4] bcast_S8x16x16x256_S8x16x16x1x256_0_1_2_4 (fun j => (Host.argReduce reducer_argmax_f32_i32 (select (broadcastInDim S8x16x16x2048x256 ![0, 1, 2, 3, 4] bcast_S8x16x16x2048x1_S8x16x16x2048x256_0_1_2_3_4 (broadcastInDim S8x16x16x2048x1 ![0, 1, 2, 3] bcast_S8x16x16x2048_S8x16x16x2048x1_0_1_2_3 (andi (andi (cmpi .sge (broadcastInDim S8x16x16x2048 ![0, 1, 2, 3] bcast_S1x1x1x2048_S8x16x16x2048_0_1_2_3 (broadcastInDim S1x1x1x2048 ![3] bcast_S2048_S1x1x1x2048_3 (iotaInDim S2048 32 0))) (broadcastInDim S8x16x16x2048 ![0, 1, 2, 3] bcast_S8x16x16x1_S8x16x16x2048_0_1_2_3 (broadcastInDim S8x16x16x1 ![0, 1, 2] bcast_S8x16x16_S8x16x16x1_0_1_2 (minsi (broadcastInDim S8x16x16 ![0, 1, 2] bcast_S8x16x1_S8x16x16_0_1_2 (broadcastInDim S8x16x1 ![0, 1] bcast_S8x16_S8x16x1_0_1 (shapeCast _ (extractStridedSlice S8x16x1 ![0, 0, 1] (m ((c.tc : Thread nD τ).loc main_arg1)) slices_S8x16x2_S8x16x1_0_0_1) shapeCasts_S8x16x1_S8x16))) (broadcastInDim S8x16x16 ![0, 1, 2] bcast_S8x1x16_S8x16x16_0_1_2 (broadcastInDim S8x1x16 ![0, 2] bcast_S8x16_S8x1x16_0_2 (shapeCast _ (extractStridedSlice S8x16x1 ![0, 0, 1] (m ((c.tc : Thread nD τ).loc main_arg1)) slices_S8x16x2_S8x16x1_0_0_1) shapeCasts_S8x16x1_S8x16))))))) (cmpi .slt (broadcastInDim S8x16x16x2048 ![0, 1, 2, 3] bcast_S1x1x1x2048_S8x16x16x2048_0_1_2_3 (broadcastInDim S1x1x1x2048 ![3] bcast_S2048_S1x1x1x2048_3 (iotaInDim S2048 32 0))) (broadcastInDim S8x16x16x2048 ![0, 1, 2, 3] bcast_S8x16x16x1_S8x16x16x2048_0_1_2_3 (broadcastInDim S8x16x16x1 ![0, 1, 2] bcast_S8x16x16_S8x16x16x1_0_1_2 (maxsi (broadcastInDim S8x16x16 ![0, 1, 2] bcast_S8x16x1_S8x16x16_0_1_2 (broadcastInDim S8x16x1 ![0, 1] bcast_S8x16_S8x16x1_0_1 (shapeCast _ (extractStridedSlice S8x16x1 ![0, 0, 0] (m ((c.tc : Thread nD τ).loc main_arg1)) slices_S8x16x2_S8x16x1_0_0_0) shapeCasts_S8x16x1_S8x16))) (broadcastInDim S8x16x16 ![0, 1, 2] bcast_S8x1x16_S8x16x16_0_1_2 (broadcastInDim S8x1x16 ![0, 2] bcast_S8x16_S8x1x16_0_2 (shapeCast _ (extractStridedSlice S8x16x1 ![0, 0, 0] (m ((c.tc : Thread nD τ).loc main_arg1)) slices_S8x16x2_S8x16x1_0_0_0) shapeCasts_S8x16x1_S8x16)))))))) (broadcastInDim S8x16x16x2048 ![0, 1, 2, 3] bcast_S8x1x1x2048_S8x16x16x2048_0_1_2_3 (broadcastInDim S8x1x1x2048 ![0, 3] bcast_S8x2048_S8x1x1x2048_0_3 (m ((c.tc : Thread nD τ).loc main_arg3))))))) (broadcastInDim S8x16x16x2048x256 ![0, 1, 2, 3, 4] bcast_S8x1x1x2048x256_S8x16x16x2048x256_0_1_2_3_4 (broadcastInDim S8x1x1x2048x256 ![0, 3, 4] bcast_S8x2048x256_S8x1x1x2048x256_0_3_4 (m ((c.tc : Thread nD τ).loc main_arg2)))) (broadcastInDim S8x16x16x2048x256 ![] bcast_S_S8x16x16x2048x256 (id (constant S_ .f32 0xFF800000#32)))) (iotaInDim S8x16x16x2048x256 32 3) (constant S_ .f32 0xFF800000#32) (constantI S_ 32 0#32) reducesTo_S8x16x16x2048x256_S8x16x16x256_d3 h_S_ j).2))) shapeCasts_S8x16x16x1x256_S8x16x16x1x256x1) (broadcastInDim S8x16x16x1x256x1 ![] bcast_S_S8x16x16x1x256x1 (constantI S_ 32 0#32))) (cmpi .sle (shapeCast _ (select (cmpi .slt (broadcastInDim S8x16x16x1x256 ![0, 1, 2, 4] bcast_S8x16x16x256_S8x16x16x1x256_0_1_2_4 (fun j => (Host.argReduce reducer_argmax_f32_i32 (select (broadcastInDim S8x16x16x2048x256 ![0, 1, 2, 3, 4] bcast_S8x16x16x2048x1_S8x16x16x2048x256_0_1_2_3_4 (broadcastInDim S8x16x16x2048x1 ![0, 1, 2, 3] bcast_S8x16x16x2048_S8x16x16x2048x1_0_1_2_3 (andi (andi (cmpi .sge (broadcastInDim S8x16x16x2048 ![0, 1, 2, 3] bcast_S1x1x1x2048_S8x16x16x2048_0_1_2_3 (broadcastInDim S1x1x1x2048 ![3] bcast_S2048_S1x1x1x2048_3 (iotaInDim S2048 32 0))) (broadcastInDim S8x16x16x2048 ![0, 1, 2, 3] bcast_S8x16x16x1_S8x16x16x2048_0_1_2_3 (broadcastInDim S8x16x16x1 ![0, 1, 2] bcast_S8x16x16_S8x16x16x1_0_1_2 (minsi (broadcastInDim S8x16x16 ![0, 1, 2] bcast_S8x16x1_S8x16x16_0_1_2 (broadcastInDim S8x16x1 ![0, 1] bcast_S8x16_S8x16x1_0_1 (shapeCast _ (extractStridedSlice S8x16x1 ![0, 0, 1] (m ((c.tc : Thread nD τ).loc main_arg1)) slices_S8x16x2_S8x16x1_0_0_1) shapeCasts_S8x16x1_S8x16))) (broadcastInDim S8x16x16 ![0, 1, 2] bcast_S8x1x16_S8x16x16_0_1_2 (broadcastInDim S8x1x16 ![0, 2] bcast_S8x16_S8x1x16_0_2 (shapeCast _ (extractStridedSlice S8x16x1 ![0, 0, 1] (m ((c.tc : Thread nD τ).loc main_arg1)) slices_S8x16x2_S8x16x1_0_0_1) shapeCasts_S8x16x1_S8x16))))))) (cmpi .slt (broadcastInDim S8x16x16x2048 ![0, 1, 2, 3] bcast_S1x1x1x2048_S8x16x16x2048_0_1_2_3 (broadcastInDim S1x1x1x2048 ![3] bcast_S2048_S1x1x1x2048_3 (iotaInDim S2048 32 0))) (broadcastInDim S8x16x16x2048 ![0, 1, 2, 3] bcast_S8x16x16x1_S8x16x16x2048_0_1_2_3 (broadcastInDim S8x16x16x1 ![0, 1, 2] bcast_S8x16x16_S8x16x16x1_0_1_2 (maxsi (broadcastInDim S8x16x16 ![0, 1, 2] bcast_S8x16x1_S8x16x16_0_1_2 (broadcastInDim S8x16x1 ![0, 1] bcast_S8x16_S8x16x1_0_1 (shapeCast _ (extractStridedSlice S8x16x1 ![0, 0, 0] (m ((c.tc : Thread nD τ).loc main_arg1)) slices_S8x16x2_S8x16x1_0_0_0) shapeCasts_S8x16x1_S8x16))) (broadcastInDim S8x16x16 ![0, 1, 2] bcast_S8x1x16_S8x16x16_0_1_2 (broadcastInDim S8x1x16 ![0, 2] bcast_S8x16_S8x1x16_0_2 (shapeCast _ (extractStridedSlice S8x16x1 ![0, 0, 0] (m ((c.tc : Thread nD τ).loc main_arg1)) slices_S8x16x2_S8x16x1_0_0_0) shapeCasts_S8x16x1_S8x16)))))))) (broadcastInDim S8x16x16x2048 ![0, 1, 2, 3] bcast_S8x1x1x2048_S8x16x16x2048_0_1_2_3 (broadcastInDim S8x1x1x2048 ![0, 3] bcast_S8x2048_S8x1x1x2048_0_3 (m ((c.tc : Thread nD τ).loc main_arg3))))))) (broadcastInDim S8x16x16x2048x256 ![0, 1, 2, 3, 4] bcast_S8x1x1x2048x256_S8x16x16x2048x256_0_1_2_3_4 (broadcastInDim S8x1x1x2048x256 ![0, 3, 4] bcast_S8x2048x256_S8x1x1x2048x256_0_3_4 (m ((c.tc : Thread nD τ).loc main_arg2)))) (broadcastInDim S8x16x16x2048x256 ![] bcast_S_S8x16x16x2048x256 (id (constant S_ .f32 0xFF800000#32)))) (iotaInDim S8x16x16x2048x256 32 3) (constant S_ .f32 0xFF800000#32) (constantI S_ 32 0#32) reducesTo_S8x16x16x2048x256_S8x16x16x256_d3 h_S_ j).2)) (broadcastInDim S8x16x16x1x256 ![] bcast_S_S8x16x16x1x256 (constantI S_ 32 0#32))) (addi (broadcastInDim S8x16x16x1x256 ![0, 1, 2, 4] bcast_S8x16x16x256_S8x16x16x1x256_0_1_2_4 (fun j => (Host.argReduce reducer_argmax_f32_i32 (select (broadcastInDim S8x16x16x2048x256 ![0, 1, 2, 3, 4] bcast_S8x16x16x2048x1_S8x16x16x2048x256_0_1_2_3_4 (broadcastInDim S8x16x16x2048x1 ![0, 1, 2, 3] bcast_S8x16x16x2048_S8x16x16x2048x1_0_1_2_3 (andi (andi (cmpi .sge (broadcastInDim S8x16x16x2048 ![0, 1, 2, 3] bcast_S1x1x1x2048_S8x16x16x2048_0_1_2_3 (broadcastInDim S1x1x1x2048 ![3] bcast_S2048_S1x1x1x2048_3 (iotaInDim S2048 32 0))) (broadcastInDim S8x16x16x2048 ![0, 1, 2, 3] bcast_S8x16x16x1_S8x16x16x2048_0_1_2_3 (broadcastInDim S8x16x16x1 ![0, 1, 2] bcast_S8x16x16_S8x16x16x1_0_1_2 (minsi (broadcastInDim S8x16x16 ![0, 1, 2] bcast_S8x16x1_S8x16x16_0_1_2 (broadcastInDim S8x16x1 ![0, 1] bcast_S8x16_S8x16x1_0_1 (shapeCast _ (extractStridedSlice S8x16x1 ![0, 0, 1] (m ((c.tc : Thread nD τ).loc main_arg1)) slices_S8x16x2_S8x16x1_0_0_1) shapeCasts_S8x16x1_S8x16))) (broadcastInDim S8x16x16 ![0, 1, 2] bcast_S8x1x16_S8x16x16_0_1_2 (broadcastInDim S8x1x16 ![0, 2] bcast_S8x16_S8x1x16_0_2 (shapeCast _ (extractStridedSlice S8x16x1 ![0, 0, 1] (m ((c.tc : Thread nD τ).loc main_arg1)) slices_S8x16x2_S8x16x1_0_0_1) shapeCasts_S8x16x1_S8x16))))))) (cmpi .slt (broadcastInDim S8x16x16x2048 ![0, 1, 2, 3] bcast_S1x1x1x2048_S8x16x16x2048_0_1_2_3 (broadcastInDim S1x1x1x2048 ![3] bcast_S2048_S1x1x1x2048_3 (iotaInDim S2048 32 0))) (broadcastInDim S8x16x16x2048 ![0, 1, 2, 3] bcast_S8x16x16x1_S8x16x16x2048_0_1_2_3 (broadcastInDim S8x16x16x1 ![0, 1, 2] bcast_S8x16x16_S8x16x16x1_0_1_2 (maxsi (broadcastInDim S8x16x16 ![0, 1, 2] bcast_S8x16x1_S8x16x16_0_1_2 (broadcastInDim S8x16x1 ![0, 1] bcast_S8x16_S8x16x1_0_1 (shapeCast _ (extractStridedSlice S8x16x1 ![0, 0, 0] (m ((c.tc : Thread nD τ).loc main_arg1)) slices_S8x16x2_S8x16x1_0_0_0) shapeCasts_S8x16x1_S8x16))) (broadcastInDim S8x16x16 ![0, 1, 2] bcast_S8x1x16_S8x16x16_0_1_2 (broadcastInDim S8x1x16 ![0, 2] bcast_S8x16_S8x1x16_0_2 (shapeCast _ (extractStridedSlice S8x16x1 ![0, 0, 0] (m ((c.tc : Thread nD τ).loc main_arg1)) slices_S8x16x2_S8x16x1_0_0_0) shapeCasts_S8x16x1_S8x16)))))))) (broadcastInDim S8x16x16x2048 ![0, 1, 2, 3] bcast_S8x1x1x2048_S8x16x16x2048_0_1_2_3 (broadcastInDim S8x1x1x2048 ![0, 3] bcast_S8x2048_S8x1x1x2048_0_3 (m ((c.tc : Thread nD τ).loc main_arg3))))))) (broadcastInDim S8x16x16x2048x256 ![0, 1, 2, 3, 4] bcast_S8x1x1x2048x256_S8x16x16x2048x256_0_1_2_3_4 (broadcastInDim S8x1x1x2048x256 ![0, 3, 4] bcast_S8x2048x256_S8x1x1x2048x256_0_3_4 (m ((c.tc : Thread nD τ).loc main_arg2)))) (broadcastInDim S8x16x16x2048x256 ![] bcast_S_S8x16x16x2048x256 (id (constant S_ .f32 0xFF800000#32)))) (iotaInDim S8x16x16x2048x256 32 3) (constant S_ .f32 0xFF800000#32) (constantI S_ 32 0#32) reducesTo_S8x16x16x2048x256_S8x16x16x256_d3 h_S_ j).2)) (broadcastInDim S8x16x16x1x256 ![] bcast_S_S8x16x16x1x256 (constantI S_ 32 2048#32))) (broadcastInDim S8x16x16x1x256 ![0, 1, 2, 4] bcast_S8x16x16x256_S8x16x16x1x256_0_1_2_4 (fun j => (Host.argReduce reducer_argmax_f32_i32 (select (broadcastInDim S8x16x16x2048x256 ![0, 1, 2, 3, 4] bcast_S8x16x16x2048x1_S8x16x16x2048x256_0_1_2_3_4 (broadcastInDim S8x16x16x2048x1 ![0, 1, 2, 3] bcast_S8x16x16x2048_S8x16x16x2048x1_0_1_2_3 (andi (andi (cmpi .sge (broadcastInDim S8x16x16x2048 ![0, 1, 2, 3] bcast_S1x1x1x2048_S8x16x16x2048_0_1_2_3 (broadcastInDim S1x1x1x2048 ![3] bcast_S2048_S1x1x1x2048_3 (iotaInDim S2048 32 0))) (broadcastInDim S8x16x16x2048 ![0, 1, 2, 3] bcast_S8x16x16x1_S8x16x16x2048_0_1_2_3 (broadcastInDim S8x16x16x1 ![0, 1, 2] bcast_S8x16x16_S8x16x16x1_0_1_2 (minsi (broadcastInDim S8x16x16 ![0, 1, 2] bcast_S8x16x1_S8x16x16_0_1_2 (broadcastInDim S8x16x1 ![0, 1] bcast_S8x16_S8x16x1_0_1 (shapeCast _ (extractStridedSlice S8x16x1 ![0, 0, 1] (m ((c.tc : Thread nD τ).loc main_arg1)) slices_S8x16x2_S8x16x1_0_0_1) shapeCasts_S8x16x1_S8x16))) (broadcastInDim S8x16x16 ![0, 1, 2] bcast_S8x1x16_S8x16x16_0_1_2 (broadcastInDim S8x1x16 ![0, 2] bcast_S8x16_S8x1x16_0_2 (shapeCast _ (extractStridedSlice S8x16x1 ![0, 0, 1] (m ((c.tc : Thread nD τ).loc main_arg1)) slices_S8x16x2_S8x16x1_0_0_1) shapeCasts_S8x16x1_S8x16))))))) (cmpi .slt (broadcastInDim S8x16x16x2048 ![0, 1, 2, 3] bcast_S1x1x1x2048_S8x16x16x2048_0_1_2_3 (broadcastInDim S1x1x1x2048 ![3] bcast_S2048_S1x1x1x2048_3 (iotaInDim S2048 32 0))) (broadcastInDim S8x16x16x2048 ![0, 1, 2, 3] bcast_S8x16x16x1_S8x16x16x2048_0_1_2_3 (broadcastInDim S8x16x16x1 ![0, 1, 2] bcast_S8x16x16_S8x16x16x1_0_1_2 (maxsi (broadcastInDim S8x16x16 ![0, 1, 2] bcast_S8x16x1_S8x16x16_0_1_2 (broadcastInDim S8x16x1 ![0, 1] bcast_S8x16_S8x16x1_0_1 (shapeCast _ (extractStridedSlice S8x16x1 ![0, 0, 0] (m ((c.tc : Thread nD τ).loc main_arg1)) slices_S8x16x2_S8x16x1_0_0_0) shapeCasts_S8x16x1_S8x16))) (broadcastInDim S8x16x16 ![0, 1, 2] bcast_S8x1x16_S8x16x16_0_1_2 (broadcastInDim S8x1x16 ![0, 2] bcast_S8x16_S8x1x16_0_2 (shapeCast _ (extractStridedSlice S8x16x1 ![0, 0, 0] (m ((c.tc : Thread nD τ).loc main_arg1)) slices_S8x16x2_S8x16x1_0_0_0) shapeCasts_S8x16x1_S8x16)))))))) (broadcastInDim S8x16x16x2048 ![0, 1, 2, 3] bcast_S8x1x1x2048_S8x16x16x2048_0_1_2_3 (broadcastInDim S8x1x1x2048 ![0, 3] bcast_S8x2048_S8x1x1x2048_0_3 (m ((c.tc : Thread nD τ).loc main_arg3))))))) (broadcastInDim S8x16x16x2048x256 ![0, 1, 2, 3, 4] bcast_S8x1x1x2048x256_S8x16x16x2048x256_0_1_2_3_4 (broadcastInDim S8x1x1x2048x256 ![0, 3, 4] bcast_S8x2048x256_S8x1x1x2048x256_0_3_4 (m ((c.tc : Thread nD τ).loc main_arg2)))) (broadcastInDim S8x16x16x2048x256 ![] bcast_S_S8x16x16x2048x256 (id (constant S_ .f32 0xFF800000#32)))) (iotaInDim S8x16x16x2048x256 32 3) (constant S_ .f32 0xFF800000#32) (constantI S_ 32 0#32) reducesTo_S8x16x16x2048x256_S8x16x16x256_d3 h_S_ j).2))) shapeCasts_S8x16x16x1x256_S8x16x16x1x256x1) (broadcastInDim S8x16x16x1x256x1 ![0, 1, 2, 3, 4, 5] bcast_S1x1x1x1x1x1_S8x16x16x1x256x1_0_1_2_3_4_5 (broadcastInDim S1x1x1x1x1x1 ![5] bcast_S1_S1x1x1x1x1x1_5 (constantI S1 32 2047#32))))) (constantI S_ 1 1#1) reducesTo_S8x16x16x1x256x1_S8x16x16x1x256_d5 h_S_) (Host.gather gather_S8x16x16x2048x256_S8x16x16x1x256x1_S8x16x16x1x256_n_3_0124_0124_3_5_11111 (broadcastInDim S8x16x16x2048x256 ![0, 1, 2, 3, 4] bcast_S8x1x1x2048x256_S8x16x16x2048x256_0_1_2_3_4 (broadcastInDim S8x1x1x2048x256 ![0, 3, 4] bcast_S8x2048x256_S8x1x1x2048x256_0_3_4 (m ((c.tc : Thread nD τ).loc main_arg2)))) (shapeCast _ (select (cmpi .slt (broadcastInDim S8x16x16x1x256 ![0, 1, 2, 4] bcast_S8x16x16x256_S8x16x16x1x256_0_1_2_4 (fun j => (Host.argReduce reducer_argmax_f32_i32 (select (broadcastInDim S8x16x16x2048x256 ![0, 1, 2, 3, 4] bcast_S8x16x16x2048x1_S8x16x16x2048x256_0_1_2_3_4 (broadcastInDim S8x16x16x2048x1 ![0, 1, 2, 3] bcast_S8x16x16x2048_S8x16x16x2048x1_0_1_2_3 (andi (andi (cmpi .sge (broadcastInDim S8x16x16x2048 ![0, 1, 2, 3] bcast_S1x1x1x2048_S8x16x16x2048_0_1_2_3 (broadcastInDim S1x1x1x2048 ![3] bcast_S2048_S1x1x1x2048_3 (iotaInDim S2048 32 0))) (broadcastInDim S8x16x16x2048 ![0, 1, 2, 3] bcast_S8x16x16x1_S8x16x16x2048_0_1_2_3 (broadcastInDim S8x16x16x1 ![0, 1, 2] bcast_S8x16x16_S8x16x16x1_0_1_2 (minsi (broadcastInDim S8x16x16 ![0, 1, 2] bcast_S8x16x1_S8x16x16_0_1_2 (broadcastInDim S8x16x1 ![0, 1] bcast_S8x16_S8x16x1_0_1 (shapeCast _ (extractStridedSlice S8x16x1 ![0, 0, 1] (m ((c.tc : Thread nD τ).loc main_arg1)) slices_S8x16x2_S8x16x1_0_0_1) shapeCasts_S8x16x1_S8x16))) (broadcastInDim S8x16x16 ![0, 1, 2] bcast_S8x1x16_S8x16x16_0_1_2 (broadcastInDim S8x1x16 ![0, 2] bcast_S8x16_S8x1x16_0_2 (shapeCast _ (extractStridedSlice S8x16x1 ![0, 0, 1] (m ((c.tc : Thread nD τ).loc main_arg1)) slices_S8x16x2_S8x16x1_0_0_1) shapeCasts_S8x16x1_S8x16))))))) (cmpi .slt (broadcastInDim S8x16x16x2048 ![0, 1, 2, 3] bcast_S1x1x1x2048_S8x16x16x2048_0_1_2_3 (broadcastInDim S1x1x1x2048 ![3] bcast_S2048_S1x1x1x2048_3 (iotaInDim S2048 32 0))) (broadcastInDim S8x16x16x2048 ![0, 1, 2, 3] bcast_S8x16x16x1_S8x16x16x2048_0_1_2_3 (broadcastInDim S8x16x16x1 ![0, 1, 2] bcast_S8x16x16_S8x16x16x1_0_1_2 (maxsi (broadcastInDim S8x16x16 ![0, 1, 2] bcast_S8x16x1_S8x16x16_0_1_2 (broadcastInDim S8x16x1 ![0, 1] bcast_S8x16_S8x16x1_0_1 (shapeCast _ (extractStridedSlice S8x16x1 ![0, 0, 0] (m ((c.tc : Thread nD τ).loc main_arg1)) slices_S8x16x2_S8x16x1_0_0_0) shapeCasts_S8x16x1_S8x16))) (broadcastInDim S8x16x16 ![0, 1, 2] bcast_S8x1x16_S8x16x16_0_1_2 (broadcastInDim S8x1x16 ![0, 2] bcast_S8x16_S8x1x16_0_2 (shapeCast _ (extractStridedSlice S8x16x1 ![0, 0, 0] (m ((c.tc : Thread nD τ).loc main_arg1)) slices_S8x16x2_S8x16x1_0_0_0) shapeCasts_S8x16x1_S8x16)))))))) (broadcastInDim S8x16x16x2048 ![0, 1, 2, 3] bcast_S8x1x1x2048_S8x16x16x2048_0_1_2_3 (broadcastInDim S8x1x1x2048 ![0, 3] bcast_S8x2048_S8x1x1x2048_0_3 (m ((c.tc : Thread nD τ).loc main_arg3))))))) (broadcastInDim S8x16x16x2048x256 ![0, 1, 2, 3, 4] bcast_S8x1x1x2048x256_S8x16x16x2048x256_0_1_2_3_4 (broadcastInDim S8x1x1x2048x256 ![0, 3, 4] bcast_S8x2048x256_S8x1x1x2048x256_0_3_4 (m ((c.tc : Thread nD τ).loc main_arg2)))) (broadcastInDim S8x16x16x2048x256 ![] bcast_S_S8x16x16x2048x256 (id (constant S_ .f32 0xFF800000#32)))) (iotaInDim S8x16x16x2048x256 32 3) (constant S_ .f32 0xFF800000#32) (constantI S_ 32 0#32) reducesTo_S8x16x16x2048x256_S8x16x16x256_d3 h_S_ j).2)) (broadcastInDim S8x16x16x1x256 ![] bcast_S_S8x16x16x1x256 (constantI S_ 32 0#32))) (addi (broadcastInDim S8x16x16x1x256 ![0, 1, 2, 4] bcast_S8x16x16x256_S8x16x16x1x256_0_1_2_4 (fun j => (Host.argReduce reducer_argmax_f32_i32 (select (broadcastInDim S8x16x16x2048x256 ![0, 1, 2, 3, 4] bcast_S8x16x16x2048x1_S8x16x16x2048x256_0_1_2_3_4 (broadcastInDim S8x16x16x2048x1 ![0, 1, 2, 3] bcast_S8x16x16x2048_S8x16x16x2048x1_0_1_2_3 (andi (andi (cmpi .sge (broadcastInDim S8x16x16x2048 ![0, 1, 2, 3] bcast_S1x1x1x2048_S8x16x16x2048_0_1_2_3 (broadcastInDim S1x1x1x2048 ![3] bcast_S2048_S1x1x1x2048_3 (iotaInDim S2048 32 0))) (broadcastInDim S8x16x16x2048 ![0, 1, 2, 3] bcast_S8x16x16x1_S8x16x16x2048_0_1_2_3 (broadcastInDim S8x16x16x1 ![0, 1, 2] bcast_S8x16x16_S8x16x16x1_0_1_2 (minsi (broadcastInDim S8x16x16 ![0, 1, 2] bcast_S8x16x1_S8x16x16_0_1_2 (broadcastInDim S8x16x1 ![0, 1] bcast_S8x16_S8x16x1_0_1 (shapeCast _ (extractStridedSlice S8x16x1 ![0, 0, 1] (m ((c.tc : Thread nD τ).loc main_arg1)) slices_S8x16x2_S8x16x1_0_0_1) shapeCasts_S8x16x1_S8x16))) (broadcastInDim S8x16x16 ![0, 1, 2] bcast_S8x1x16_S8x16x16_0_1_2 (broadcastInDim S8x1x16 ![0, 2] bcast_S8x16_S8x1x16_0_2 (shapeCast _ (extractStridedSlice S8x16x1 ![0, 0, 1] (m ((c.tc : Thread nD τ).loc main_arg1)) slices_S8x16x2_S8x16x1_0_0_1) shapeCasts_S8x16x1_S8x16))))))) (cmpi .slt (broadcastInDim S8x16x16x2048 ![0, 1, 2, 3] bcast_S1x1x1x2048_S8x16x16x2048_0_1_2_3 (broadcastInDim S1x1x1x2048 ![3] bcast_S2048_S1x1x1x2048_3 (iotaInDim S2048 32 0))) (broadcastInDim S8x16x16x2048 ![0, 1, 2, 3] bcast_S8x16x16x1_S8x16x16x2048_0_1_2_3 (broadcastInDim S8x16x16x1 ![0, 1, 2] bcast_S8x16x16_S8x16x16x1_0_1_2 (maxsi (broadcastInDim S8x16x16 ![0, 1, 2] bcast_S8x16x1_S8x16x16_0_1_2 (broadcastInDim S8x16x1 ![0, 1] bcast_S8x16_S8x16x1_0_1 (shapeCast _ (extractStridedSlice S8x16x1 ![0, 0, 0] (m ((c.tc : Thread nD τ).loc main_arg1)) slices_S8x16x2_S8x16x1_0_0_0) shapeCasts_S8x16x1_S8x16))) (broadcastInDim S8x16x16 ![0, 1, 2] bcast_S8x1x16_S8x16x16_0_1_2 (broadcastInDim S8x1x16 ![0, 2] bcast_S8x16_S8x1x16_0_2 (shapeCast _ (extractStridedSlice S8x16x1 ![0, 0, 0] (m ((c.tc : Thread nD τ).loc main_arg1)) slices_S8x16x2_S8x16x1_0_0_0) shapeCasts_S8x16x1_S8x16)))))))) (broadcastInDim S8x16x16x2048 ![0, 1, 2, 3] bcast_S8x1x1x2048_S8x16x16x2048_0_1_2_3 (broadcastInDim S8x1x1x2048 ![0, 3] bcast_S8x2048_S8x1x1x2048_0_3 (m ((c.tc : Thread nD τ).loc main_arg3))))))) (broadcastInDim S8x16x16x2048x256 ![0, 1, 2, 3, 4] bcast_S8x1x1x2048x256_S8x16x16x2048x256_0_1_2_3_4 (broadcastInDim S8x1x1x2048x256 ![0, 3, 4] bcast_S8x2048x256_S8x1x1x2048x256_0_3_4 (m ((c.tc : Thread nD τ).loc main_arg2)))) (broadcastInDim S8x16x16x2048x256 ![] bcast_S_S8x16x16x2048x256 (id (constant S_ .f32 0xFF800000#32)))) (iotaInDim S8x16x16x2048x256 32 3) (constant S_ .f32 0xFF800000#32) (constantI S_ 32 0#32) reducesTo_S8x16x16x2048x256_S8x16x16x256_d3 h_S_ j).2)) (broadcastInDim S8x16x16x1x256 ![] bcast_S_S8x16x16x1x256 (constantI S_ 32 2048#32))) (broadcastInDim S8x16x16x1x256 ![0, 1, 2, 4] bcast_S8x16x16x256_S8x16x16x1x256_0_1_2_4 (fun j => (Host.argReduce reducer_argmax_f32_i32 (select (broadcastInDim S8x16x16x2048x256 ![0, 1, 2, 3, 4] bcast_S8x16x16x2048x1_S8x16x16x2048x256_0_1_2_3_4 (broadcastInDim S8x16x16x2048x1 ![0, 1, 2, 3] bcast_S8x16x16x2048_S8x16x16x2048x1_0_1_2_3 (andi (andi (cmpi .sge (broadcastInDim S8x16x16x2048 ![0, 1, 2, 3] bcast_S1x1x1x2048_S8x16x16x2048_0_1_2_3 (broadcastInDim S1x1x1x2048 ![3] bcast_S2048_S1x1x1x2048_3 (iotaInDim S2048 32 0))) (broadcastInDim S8x16x16x2048 ![0, 1, 2, 3] bcast_S8x16x16x1_S8x16x16x2048_0_1_2_3 (broadcastInDim S8x16x16x1 ![0, 1, 2] bcast_S8x16x16_S8x16x16x1_0_1_2 (minsi (broadcastInDim S8x16x16 ![0, 1, 2] bcast_S8x16x1_S8x16x16_0_1_2 (broadcastInDim S8x16x1 ![0, 1] bcast_S8x16_S8x16x1_0_1 (shapeCast _ (extractStridedSlice S8x16x1 ![0, 0, 1] (m ((c.tc : Thread nD τ).loc main_arg1)) slices_S8x16x2_S8x16x1_0_0_1) shapeCasts_S8x16x1_S8x16))) (broadcastInDim S8x16x16 ![0, 1, 2] bcast_S8x1x16_S8x16x16_0_1_2 (broadcastInDim S8x1x16 ![0, 2] bcast_S8x16_S8x1x16_0_2 (shapeCast _ (extractStridedSlice S8x16x1 ![0, 0, 1] (m ((c.tc : Thread nD τ).loc main_arg1)) slices_S8x16x2_S8x16x1_0_0_1) shapeCasts_S8x16x1_S8x16))))))) (cmpi .slt (broadcastInDim S8x16x16x2048 ![0, 1, 2, 3] bcast_S1x1x1x2048_S8x16x16x2048_0_1_2_3 (broadcastInDim S1x1x1x2048 ![3] bcast_S2048_S1x1x1x2048_3 (iotaInDim S2048 32 0))) (broadcastInDim S8x16x16x2048 ![0, 1, 2, 3] bcast_S8x16x16x1_S8x16x16x2048_0_1_2_3 (broadcastInDim S8x16x16x1 ![0, 1, 2] bcast_S8x16x16_S8x16x16x1_0_1_2 (maxsi (broadcastInDim S8x16x16 ![0, 1, 2] bcast_S8x16x1_S8x16x16_0_1_2 (broadcastInDim S8x16x1 ![0, 1] bcast_S8x16_S8x16x1_0_1 (shapeCast _ (extractStridedSlice S8x16x1 ![0, 0, 0] (m ((c.tc : Thread nD τ).loc main_arg1)) slices_S8x16x2_S8x16x1_0_0_0) shapeCasts_S8x16x1_S8x16))) (broadcastInDim S8x16x16 ![0, 1, 2] bcast_S8x1x16_S8x16x16_0_1_2 (broadcastInDim S8x1x16 ![0, 2] bcast_S8x16_S8x1x16_0_2 (shapeCast _ (extractStridedSlice S8x16x1 ![0, 0, 0] (m ((c.tc : Thread nD τ).loc main_arg1)) slices_S8x16x2_S8x16x1_0_0_0) shapeCasts_S8x16x1_S8x16)))))))) (broadcastInDim S8x16x16x2048 ![0, 1, 2, 3] bcast_S8x1x1x2048_S8x16x16x2048_0_1_2_3 (broadcastInDim S8x1x1x2048 ![0, 3] bcast_S8x2048_S8x1x1x2048_0_3 (m ((c.tc : Thread nD τ).loc main_arg3))))))) (broadcastInDim S8x16x16x2048x256 ![0, 1, 2, 3, 4] bcast_S8x1x1x2048x256_S8x16x16x2048x256_0_1_2_3_4 (broadcastInDim S8x1x1x2048x256 ![0, 3, 4] bcast_S8x2048x256_S8x1x1x2048x256_0_3_4 (m ((c.tc : Thread nD τ).loc main_arg2)))) (broadcastInDim S8x16x16x2048x256 ![] bcast_S_S8x16x16x2048x256 (id (constant S_ .f32 0xFF800000#32)))) (iotaInDim S8x16x16x2048x256 32 3) (constant S_ .f32 0xFF800000#32) (constantI S_ 32 0#32) reducesTo_S8x16x16x2048x256_S8x16x16x256_d3 h_S_ j).2))) shapeCasts_S8x16x16x1x256_S8x16x16x1x256x1)) (broadcastInDim S8x16x16x1x256 ![] bcast_S_S8x16x16x1x256 (constant S_ .f32 0x7FC00000#32))) shapeCasts_S8x16x16x1x256_S8x16x16x256) (broadcastInDim S8x16x16x256 ![] bcast_S_S8x16x16x256 (id (constant S_ .f32 0xFF800000#32)))) (broadcastInDim S8x16x16x256 ![0, 1, 2, 3] bcast_S8x16x1x256_S8x16x16x256_0_1_2_3 (broadcastInDim S8x16x1x256 ![0, 1, 3] bcast_S8x16x256_S8x16x1x256_0_1_3 (m ((c.tc : Thread nD τ).loc main_arg0))))) : (⟨S8x16x16x256, .f32⟩ : BufTy).Contents (Elt F))⟩] concatenates_S8x16x16x256_S8x16x16x256_S8x16x16x256_S8x16x16x768_d3 : (⟨S8x16x16x768, .f32⟩ : BufTy).Contents (Elt F))) (m ((c.tc : Thread nD τ).loc main_arg4))) (broadcastInDim S8x16x16x1152 ![0, 1, 2, 3] bcast_S1x1x1x1152_S8x16x16x1152_0_1_2_3 (broadcastInDim S1x1x1x1152 ![3] bcast_S1152_S1x1x1x1152_3 (m ((c.tc : Thread nD τ).loc main_arg5))))) (broadcastInDim S8x16x16x1152 ![] bcast_S_S8x16x16x1152 (constant S_ .f32 0x00000000#32))) (m ((c.tc : Thread nD τ).loc main_arg6))) (broadcastInDim S8x16x16x256 ![0, 1, 2, 3] bcast_S1x1x1x256_S8x16x16x256_0_1_2_3 (broadcastInDim S1x1x1x256 ![3] bcast_S256_S1x1x1x256_3 (m ((c.tc : Thread nD τ).loc main_arg7))))) shapeCasts_S8x16x16x256_S8x256x256

/-- `res_main_v62` by its position among the values @main returns, 0 counting from 0: the name for hand proofs to cite, since
    a re-print renumbers `main_v62`. An abbreviation: it unfolds to the `res_main_v62` that `run` states. -/
abbrev res_out0 (m : (ℓ : Loc nD τ sig) → Buf (Elt F) ℓ) (c : Dev nD) : Buf (Elt F) ((c.tc : Thread nD τ).loc main_v62) := res_main_v62 m c

set_option maxRecDepth 8192 in
set_option maxHeartbeats 40400000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v62) = res_main_v62 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v62).trans (by simp only [ops, TRef.binary, TRef.nullary, TRef.quaternary, TRef.reshape, TRef.ternary, TRef.unary, TRef.toBuf, TRef.ofBuf, cast_eq]; after_results_simp <;> (try dsimp only [Matrix.cons_val]) <;> (try after_results_simp) <;> rfl <;> (unfold res_main_v62; rfl)),
      (h c main_arg0).trans (by simp only [ops, TRef.binary, TRef.nullary, TRef.quaternary, TRef.reshape, TRef.ternary, TRef.unary, TRef.toBuf, TRef.ofBuf, cast_eq]; after_results_simp <;> (try dsimp only [Matrix.cons_val]) <;> (try after_results_simp) <;> rfl),
      (h c main_arg1).trans (by simp only [ops, TRef.binary, TRef.nullary, TRef.quaternary, TRef.reshape, TRef.ternary, TRef.unary, TRef.toBuf, TRef.ofBuf, cast_eq]; after_results_simp <;> (try dsimp only [Matrix.cons_val]) <;> (try after_results_simp) <;> rfl),
      (h c main_arg2).trans (by simp only [ops, TRef.binary, TRef.nullary, TRef.quaternary, TRef.reshape, TRef.ternary, TRef.unary, TRef.toBuf, TRef.ofBuf, cast_eq]; after_results_simp <;> (try dsimp only [Matrix.cons_val]) <;> (try after_results_simp) <;> rfl),
      (h c main_arg3).trans (by simp only [ops, TRef.binary, TRef.nullary, TRef.quaternary, TRef.reshape, TRef.ternary, TRef.unary, TRef.toBuf, TRef.ofBuf, cast_eq]; after_results_simp <;> (try dsimp only [Matrix.cons_val]) <;> (try after_results_simp) <;> rfl),
      (h c main_arg4).trans (by simp only [ops, TRef.binary, TRef.nullary, TRef.quaternary, TRef.reshape, TRef.ternary, TRef.unary, TRef.toBuf, TRef.ofBuf, cast_eq]; after_results_simp <;> (try dsimp only [Matrix.cons_val]) <;> (try after_results_simp) <;> rfl),
      (h c main_arg5).trans (by simp only [ops, TRef.binary, TRef.nullary, TRef.quaternary, TRef.reshape, TRef.ternary, TRef.unary, TRef.toBuf, TRef.ofBuf, cast_eq]; after_results_simp <;> (try dsimp only [Matrix.cons_val]) <;> (try after_results_simp) <;> rfl),
      (h c main_arg6).trans (by simp only [ops, TRef.binary, TRef.nullary, TRef.quaternary, TRef.reshape, TRef.ternary, TRef.unary, TRef.toBuf, TRef.ofBuf, cast_eq]; after_results_simp <;> (try dsimp only [Matrix.cons_val]) <;> (try after_results_simp) <;> rfl),
      (h c main_arg7).trans (by simp only [ops, TRef.binary, TRef.nullary, TRef.quaternary, TRef.reshape, TRef.ternary, TRef.unary, TRef.toBuf, TRef.ofBuf, cast_eq]; after_results_simp <;> (try dsimp only [Matrix.cons_val]) <;> (try after_results_simp) <;> rfl)⟩)
    (run_seq scopedRefs_eq scopedSems_eq defs main (fun _ => ops) main_eq (fun _ => ops_sub) m ρ)

end Cert.ReferenceArgmaxIdeal.Value

end
-- ==== Proof.ArgmaxValue.lean ====
/- The value of the second reference, the one that pools by argmax and gather: at every index it is the answer of Spans.lean, where
   no token is masked and none is minus infinity. -/
module

public import proofs.«01_k».proof.Proof.ArgmaxRun
public import proofs.«01_k».proof.Proof.Spans
public import Idealize.ShloMosaic.Lib.Tactic.CleanTypes
public import Idealize.ShloMosaic.Lib.Pointwise
public import Idealize.ShloMosaic.Lib.ReduceAll
public import Idealize.ShloMosaic.Lib.ValueIdxRank6

@[expose] public section

set_option maxRecDepth 16384

noncomputable section

namespace Cert.ReferenceArgmaxIdeal.ArgmaxValue

open Cert.ReferenceArgmaxIdeal Cert.ReferenceArgmaxIdeal.Gen Cert.ReferenceArgmaxIdeal.Value Cert.Spans
open Idealize.ShloMosaic Idealize.ShloMosaic.TcCoe
open Idealize.SL Idealize.SL.Sem

/-! The argmax's body and its fold -/

/-- The body of the argmax on pairs of a value and its position. -/
abbrev red : EReal × BitVec 32 → EReal × BitVec 32 → EReal × BitVec 32 := reducer_argmax_f32_i32 (F := Ideal)

theorem red_cases (a b : EReal × BitVec 32) : (red a b = a ∧ b.1 ≤ a.1) ∨ (red a b = b ∧ a.1 ≤ b.1) := by
  obtain ⟨x, u⟩ := a
  obtain ⟨y, v⟩ := b
  unfold red reducer_argmax_f32_i32
  simp only [Ideal.cmpf_def, Ideal.cmp]
  rcases lt_trichotomy y x with h | h | h
  · left
    refine ⟨?_, h.le⟩
    simp [h, Scalar.select, IntOp.ori, IntOp.andi]
    intro hn
    refine absurd ?_ hn
    generalize (BitVec.ofBool (decide (x = y)) &&& IntOp.cmpi CmpIPredicate.slt u v) = w
    revert w; decide
  · subst h
    generalize IntOp.cmpi .slt u v = w
    by_cases hw : w = 1#1
    · left
      subst hw
      simp [Scalar.select, IntOp.ori, IntOp.andi]
    · right
      have hw0 : w = 0#1 := by revert hw; revert w; decide
      subst hw0
      simp [Scalar.select, IntOp.ori, IntOp.andi]
  · right
    refine ⟨?_, h.le⟩
    simp [h.not_gt, h.ne, Scalar.select, IntOp.ori, IntOp.andi]

theorem foldl_red : ∀ (L : List (EReal × BitVec 32)) (a : EReal × BitVec 32),
    (L.foldl red a = a ∨ L.foldl red a ∈ L) ∧ a.1 ≤ (L.foldl red a).1 ∧ ∀ p ∈ L, p.1 ≤ (L.foldl red a).1
  | [], a => ⟨Or.inl rfl, le_refl _, fun p hp => absurd hp List.not_mem_nil⟩
  | q :: L, a => by
    rw [List.foldl_cons]
    rcases red_cases a q with ⟨e, h⟩ | ⟨e, h⟩
    · rw [e]
      obtain ⟨h1, h2, h3⟩ := foldl_red L a
      refine ⟨h1.imp id (List.mem_cons_of_mem _), h2, fun p hp => ?_⟩
      rcases List.mem_cons.1 hp with rfl | hp
      · exact h.trans h2
      · exact h3 p hp
    · rw [e]
      obtain ⟨h1, h2, h3⟩ := foldl_red L q
      refine ⟨Or.inr ?_, h.trans h2, fun p hp => ?_⟩
      · rcases h1 with h1 | h1
        · rw [h1]; exact List.mem_cons_self
        · exact List.mem_cons_of_mem _ h1
      · rcases List.mem_cons.1 hp with rfl | hp
        · exact h2
        · exact h3 p hp

/-- The argmax along the tokens, as a pair of the largest value and its position. -/
def best (V : FVec Ideal S8x16x16x2048x256 .f32) (j : S8x16x16x256.Idx) : EReal × BitVec 32 :=
  Host.argReduce red V (iotaInDim S8x16x16x2048x256 32 3) (constant (F := Ideal) S_ .f32 0xFF800000#32) (constantI S_ 32 0#32)
    reducesTo_S8x16x16x2048x256_S8x16x16x256_d3 h_S_ j

theorem best_at (V : FVec Ideal S8x16x16x2048x256 .f32) (b : Fin 8) (i j : Fin 16) (h : Fin 256) :
    (∀ t : Fin 2048, V (ix5 b i j t h) ≤ (best V (ix4 b i j h)).1)
      ∧ ((∃ t : Fin 2048, (best V (ix4 b i j h)).2 = BitVec.ofNat 32 t.val ∧ (best V (ix4 b i j h)).1 = V (ix5 b i j t h))
        ∨ ((best V (ix4 b i j h)).2 = 0#32 ∧ (best V (ix4 b i j h)).1 = ⊥)) := by
  have e : best V (ix4 b i j h) = (Host.argReduceFiber V (iotaInDim S8x16x16x2048x256 32 3) reducesTo_S8x16x16x2048x256_S8x16x16x256_d3 (ix4 b i j h)).foldl red
      (negInf, 0#32) := by
    unfold best
    rw [Ideal.argReduce_eq_reduce2, Host.reduce2_eq_foldl_fiber]
    rfl
  have fib := fun i' => Shape.ReducesTo.fiber_r5_a3 reducesTo_S8x16x16x2048x256_S8x16x16x256_d3 (ix4 b i j h) i'
  obtain ⟨h1, _, h3⟩ := foldl_red (Host.argReduceFiber V (iotaInDim S8x16x16x2048x256 32 3) reducesTo_S8x16x16x2048x256_S8x16x16x256_d3 (ix4 b i j h))
    (negInf, 0#32)
  rw [← e] at h1 h3
  refine ⟨fun t => ?_, ?_⟩
  · refine h3 (V (ix5 b i j t h), BitVec.ofNat 32 t.val) ?_
    unfold Host.argReduceFiber
    refine List.mem_map.2 ⟨S8x16x16x2048x256.rowMajor (ix5 b i j t h), ?_, ?_⟩
    · refine List.mem_filter.2 ⟨List.mem_finRange _, ?_⟩
      rw [Equiv.symm_apply_apply, decide_eq_true_eq]
      exact (fib _).2 ⟨t, rfl⟩
    · rw [Equiv.symm_apply_apply]
      rfl
  · rcases h1 with h1 | h1
    · right
      rw [h1]
      exact ⟨rfl, negInf_eq⟩
    · left
      unfold Host.argReduceFiber at h1
      obtain ⟨n, hn, hv⟩ := List.mem_map.1 h1
      have hn2 := (List.mem_filter.1 hn).2
      rw [decide_eq_true_eq] at hn2
      obtain ⟨t, ht⟩ := (fib _).1 hn2
      rw [← ht] at hv
      exact ⟨t, by rw [← hv]; rfl, by rw [← hv]; rfl⟩

/-! The pieces of the reference's pooling -/

/-- The mask of the reference: the tokens of a pair's context that are not masked. -/
def maskOf (X1 : IVec S8x16x2 32) (X3 : IVec S8x2048 1) : IVec S8x16x16x2048 1 :=
  andi (andi (cmpi .sge (broadcastInDim S8x16x16x2048 ![0, 1, 2, 3] bcast_S1x1x1x2048_S8x16x16x2048_0_1_2_3 (broadcastInDim S1x1x1x2048 ![3] bcast_S2048_S1x1x1x2048_3 (iotaInDim S2048 32 0))) (broadcastInDim S8x16x16x2048 ![0, 1, 2, 3] bcast_S8x16x16x1_S8x16x16x2048_0_1_2_3 (broadcastInDim S8x16x16x1 ![0, 1, 2] bcast_S8x16x16_S8x16x16x1_0_1_2 (minsi (broadcastInDim S8x16x16 ![0, 1, 2] bcast_S8x16x1_S8x16x16_0_1_2 (broadcastInDim S8x16x1 ![0, 1] bcast_S8x16_S8x16x1_0_1 (shapeCast _ (extractStridedSlice S8x16x1 ![0, 0, 1] X1 slices_S8x16x2_S8x16x1_0_0_1) shapeCasts_S8x16x1_S8x16))) (broadcastInDim S8x16x16 ![0, 1, 2] bcast_S8x1x16_S8x16x16_0_1_2 (broadcastInDim S8x1x16 ![0, 2] bcast_S8x16_S8x1x16_0_2 (shapeCast _ (extractStridedSlice S8x16x1 ![0, 0, 1] X1 slices_S8x16x2_S8x16x1_0_0_1) shapeCasts_S8x16x1_S8x16))))))) (cmpi .slt (broadcastInDim S8x16x16x2048 ![0, 1, 2, 3] bcast_S1x1x1x2048_S8x16x16x2048_0_1_2_3 (broadcastInDim S1x1x1x2048 ![3] bcast_S2048_S1x1x1x2048_3 (iotaInDim S2048 32 0))) (broadcastInDim S8x16x16x2048 ![0, 1, 2, 3] bcast_S8x16x16x1_S8x16x16x2048_0_1_2_3 (broadcastInDim S8x16x16x1 ![0, 1, 2] bcast_S8x16x16_S8x16x16x1_0_1_2 (maxsi (broadcastInDim S8x16x16 ![0, 1, 2] bcast_S8x16x1_S8x16x16_0_1_2 (broadcastInDim S8x16x1 ![0, 1] bcast_S8x16_S8x16x1_0_1 (shapeCast _ (extractStridedSlice S8x16x1 ![0, 0, 0] X1 slices_S8x16x2_S8x16x1_0_0_0) shapeCasts_S8x16x1_S8x16))) (broadcastInDim S8x16x16 ![0, 1, 2] bcast_S8x1x16_S8x16x16_0_1_2 (broadcastInDim S8x1x16 ![0, 2] bcast_S8x16_S8x1x16_0_2 (shapeCast _ (extractStridedSlice S8x16x1 ![0, 0, 0] X1 slices_S8x16x2_S8x16x1_0_0_0) shapeCasts_S8x16x1_S8x16)))))))) (broadcastInDim S8x16x16x2048 ![0, 1, 2, 3] bcast_S8x1x1x2048_S8x16x16x2048_0_1_2_3 (broadcastInDim S8x1x1x2048 ![0, 3] bcast_S8x2048_S8x1x1x2048_0_3 X3))

/-- The positions that the argmax finds. -/
def argm (M : IVec S8x16x16x2048 1) (X2 : FVec Ideal S8x2048x256 .f32) : IVec S8x16x16x256 32 :=
  fun j => (Host.argReduce red (select (broadcastInDim S8x16x16x2048x256 ![0, 1, 2, 3, 4] bcast_S8x16x16x2048x1_S8x16x16x2048x256_0_1_2_3_4 (broadcastInDim S8x16x16x2048x1 ![0, 1, 2, 3] bcast_S8x16x16x2048_S8x16x16x2048x1_0_1_2_3 M)) (broadcastInDim S8x16x16x2048x256 ![0, 1, 2, 3, 4] bcast_S8x1x1x2048x256_S8x16x16x2048x256_0_1_2_3_4 (broadcastInDim S8x1x1x2048x256 ![0, 3, 4] bcast_S8x2048x256_S8x1x1x2048x256_0_3_4 X2)) (broadcastInDim S8x16x16x2048x256 ![] bcast_S_S8x16x16x2048x256 (id (constant (F := Ideal) S_ .f32 0xFF800000#32)))) (iotaInDim S8x16x16x2048x256 32 3) (constant (F := Ideal) S_ .f32 0xFF800000#32) (constantI S_ 32 0#32) reducesTo_S8x16x16x2048x256_S8x16x16x256_d3 h_S_ j).2

/-- The positions as the gather reads them: one below zero counts from the end. -/
def wrap (A : IVec S8x16x16x256 32) : IVec S8x16x16x1x256x1 32 :=
  shapeCast _ (select (cmpi .slt (broadcastInDim S8x16x16x1x256 ![0, 1, 2, 4] bcast_S8x16x16x256_S8x16x16x1x256_0_1_2_4 A) (broadcastInDim S8x16x16x1x256 ![] bcast_S_S8x16x16x1x256 (constantI S_ 32 0#32))) (addi (broadcastInDim S8x16x16x1x256 ![0, 1, 2, 4] bcast_S8x16x16x256_S8x16x16x1x256_0_1_2_4 A) (broadcastInDim S8x16x16x1x256 ![] bcast_S_S8x16x16x1x256 (constantI S_ 32 2048#32))) (broadcastInDim S8x16x16x1x256 ![0, 1, 2, 4] bcast_S8x16x16x256_S8x16x16x1x256_0_1_2_4 A)) shapeCasts_S8x16x16x1x256_S8x16x16x1x256x1

/-- The token features at the given positions, as the reference gathers them. -/
def taken (A : IVec S8x16x16x256 32) (X2 : FVec Ideal S8x2048x256 .f32) : FVec Ideal S8x16x16x256 .f32 :=
  shapeCast _ (select (Host.reduce IntOp.andi (andi (cmpi .sge (wrap A) (broadcastInDim S8x16x16x1x256x1 ![] bcast_S_S8x16x16x1x256x1 (constantI S_ 32 0#32))) (cmpi .sle (wrap A) (broadcastInDim S8x16x16x1x256x1 ![0, 1, 2, 3, 4, 5] bcast_S1x1x1x1x1x1_S8x16x16x1x256x1_0_1_2_3_4_5 (broadcastInDim S1x1x1x1x1x1 ![5] bcast_S1_S1x1x1x1x1x1_5 (constantI S1 32 2047#32))))) (constantI S_ 1 1#1) reducesTo_S8x16x16x1x256x1_S8x16x16x1x256_d5 h_S_) (Host.gather gather_S8x16x16x2048x256_S8x16x16x1x256x1_S8x16x16x1x256_n_3_0124_0124_3_5_11111 (broadcastInDim S8x16x16x2048x256 ![0, 1, 2, 3, 4] bcast_S8x1x1x2048x256_S8x16x16x2048x256_0_1_2_3_4 (broadcastInDim S8x1x1x2048x256 ![0, 3, 4] bcast_S8x2048x256_S8x1x1x2048x256_0_3_4 X2)) (wrap A)) (broadcastInDim S8x16x16x1x256 ![] bcast_S_S8x16x16x1x256 (constant (F := Ideal) S_ .f32 0x7FC00000#32))) shapeCasts_S8x16x16x1x256_S8x16x16x256

/-- The gathered features where the mask holds a token, minus infinity elsewhere. -/
def pooled (M : IVec S8x16x16x2048 1) (T : FVec Ideal S8x16x16x256 .f32) : FVec Ideal S8x16x16x256 .f32 :=
  select (broadcastInDim S8x16x16x256 ![0, 1, 2, 3] bcast_S8x16x16x1_S8x16x16x256_0_1_2_3 (broadcastInDim S8x16x16x1 ![0, 1, 2] bcast_S8x16x16_S8x16x16x1_0_1_2 (Host.reduce IntOp.ori M (constantI S_ 1 0#1) reducesTo_S8x16x16x2048_S8x16x16_d3 h_S_))) T (broadcastInDim S8x16x16x256 ![] bcast_S_S8x16x16x256 (id (constant (F := Ideal) S_ .f32 0xFF800000#32)))

/-- The rest of the reference, from the pooled features on. -/
def after (P : FVec Ideal S8x16x16x256 .f32) (X0 : FVec Ideal S8x16x256 .f32) (X1 : IVec S8x16x2 32) (X4 : FVec Ideal S768x1152 .f32)
    (X5 : FVec Ideal S1152 .f32) (X6 : FVec Ideal S1152x256 .f32) (X7 : FVec Ideal S256 .f32) : FVec Ideal S8x256x256 .f32 :=
  shapeCast _ (addf (Host.dotGeneral (φ₁ := .f32) (φ₂ := .f32) dot_S8x16x16x1152_S1152x256_S8x16x16x256_3_0_012_1_n_n none (maximumf (addf (Host.dotGeneral (φ₁ := .f32) (φ₂ := .f32) dot_S8x16x16x768_S768x1152_S8x16x16x1152_3_0_012_1_n_n none ((concatenate S8x16x16x768 3 [⟨S8x16x16x256, ((broadcastInDim S8x16x16x256 ![0, 1, 2, 3] bcast_S8x16x1x256_S8x16x16x256_0_1_2_3 (broadcastInDim S8x16x1x256 ![0, 1, 3] bcast_S8x16x256_S8x16x1x256_0_1_3 X0)) : (⟨S8x16x16x256, .f32⟩ : BufTy).Contents (Elt Ideal))⟩, ⟨S8x16x16x256, ((broadcastInDim S8x16x16x256 ![0, 1, 2, 3] bcast_S8x1x16x256_S8x16x16x256_0_1_2_3 (broadcastInDim S8x1x16x256 ![0, 2, 3] bcast_S8x16x256_S8x1x16x256_0_2_3 X0)) : (⟨S8x16x16x256, .f32⟩ : BufTy).Contents (Elt Ideal))⟩, ⟨S8x16x16x256, ((select (broadcastInDim S8x16x16x256 ![0, 1, 2, 3] bcast_S8x16x16x1_S8x16x16x256_0_1_2_3 (broadcastInDim S8x16x16x1 ![0, 1, 2] bcast_S8x16x16_S8x16x16x1_0_1_2 (cmpi .slt (minsi (broadcastInDim S8x16x16 ![0, 1, 2] bcast_S8x16x1_S8x16x16_0_1_2 (broadcastInDim S8x16x1 ![0, 1] bcast_S8x16_S8x16x1_0_1 (shapeCast _ (extractStridedSlice S8x16x1 ![0, 0, 1] X1 slices_S8x16x2_S8x16x1_0_0_1) shapeCasts_S8x16x1_S8x16))) (broadcastInDim S8x16x16 ![0, 1, 2] bcast_S8x1x16_S8x16x16_0_1_2 (broadcastInDim S8x1x16 ![0, 2] bcast_S8x16_S8x1x16_0_2 (shapeCast _ (extractStridedSlice S8x16x1 ![0, 0, 1] X1 slices_S8x16x2_S8x16x1_0_0_1) shapeCasts_S8x16x1_S8x16)))) (maxsi (broadcastInDim S8x16x16 ![0, 1, 2] bcast_S8x16x1_S8x16x16_0_1_2 (broadcastInDim S8x16x1 ![0, 1] bcast_S8x16_S8x16x1_0_1 (shapeCast _ (extractStridedSlice S8x16x1 ![0, 0, 0] X1 slices_S8x16x2_S8x16x1_0_0_0) shapeCasts_S8x16x1_S8x16))) (broadcastInDim S8x16x16 ![0, 1, 2] bcast_S8x1x16_S8x16x16_0_1_2 (broadcastInDim S8x1x16 ![0, 2] bcast_S8x16_S8x1x16_0_2 (shapeCast _ (extractStridedSlice S8x16x1 ![0, 0, 0] X1 slices_S8x16x2_S8x16x1_0_0_0) shapeCasts_S8x16x1_S8x16))))))) P (broadcastInDim S8x16x16x256 ![0, 1, 2, 3] bcast_S8x16x1x256_S8x16x16x256_0_1_2_3 (broadcastInDim S8x16x1x256 ![0, 1, 3] bcast_S8x16x256_S8x16x1x256_0_1_3 X0))) : (⟨S8x16x16x256, .f32⟩ : BufTy).Contents (Elt Ideal))⟩] concatenates_S8x16x16x256_S8x16x16x256_S8x16x16x256_S8x16x16x768_d3 : (⟨S8x16x16x768, .f32⟩ : BufTy).Contents (Elt Ideal))) X4) (broadcastInDim S8x16x16x1152 ![0, 1, 2, 3] bcast_S1x1x1x1152_S8x16x16x1152_0_1_2_3 (broadcastInDim S1x1x1x1152 ![3] bcast_S1152_S1x1x1x1152_3 X5))) (broadcastInDim S8x16x16x1152 ![] bcast_S_S8x16x16x1152 (constant (F := Ideal) S_ .f32 0x00000000#32))) X6) (broadcastInDim S8x16x16x256 ![0, 1, 2, 3] bcast_S1x1x1x256_S8x16x16x256_0_1_2_3 (broadcastInDim S1x1x1x256 ![3] bcast_S256_S1x1x1x256_3 X7))) shapeCasts_S8x16x16x256_S8x256x256

theorem res_split (m : (ℓ : Loc nD τ sig) → Buf (Elt Ideal) ℓ) (c : Dev nD) :
    res_main_v62 (F := Ideal) m c
      = after (pooled (maskOf (m ((c.tc : Thread nD τ).loc main_arg1)) (m ((c.tc : Thread nD τ).loc main_arg3)))
          (taken (argm (maskOf (m ((c.tc : Thread nD τ).loc main_arg1)) (m ((c.tc : Thread nD τ).loc main_arg3))) (m ((c.tc : Thread nD τ).loc main_arg2)))
            (m ((c.tc : Thread nD τ).loc main_arg2))))
          (m ((c.tc : Thread nD τ).loc main_arg0)) (m ((c.tc : Thread nD τ).loc main_arg1)) (m ((c.tc : Thread nD τ).loc main_arg4))
          (m ((c.tc : Thread nD τ).loc main_arg5)) (m ((c.tc : Thread nD τ).loc main_arg6)) (m ((c.tc : Thread nD τ).loc main_arg7)) := by
  unfold res_main_v62 after pooled taken wrap argm maskOf
  rfl

/-! The gather -/

/-- The gather's dimension numbers. -/
abbrev dims : GatherDims S8x16x16x2048x256 S8x16x16x1x256x1 S8x16x16x1x256 :=
  gather_S8x16x16x2048x256_S8x16x16x1x256x1_S8x16x16x1x256_n_3_0124_0124_3_5_11111

theorem off_zero (y : S8x16x16x1x256.Idx) (a : Fin S8x16x16x2048x256.rank) : dims.offCoord y a = 0 :=
  dims.offCoord_eq_zero y a (by revert a; decide)

theorem word_toNat (t : Fin 2048) : (BitVec.ofNat 32 t.val).toInt.toNat = t.val := by
  have ht := t.isLt
  rw [BitVec.toInt_eq_toNat_of_lt (by rw [BitVec.toNat_ofNat]; omega), BitVec.toNat_ofNat]
  omega

theorem gather_at (X : S8x16x16x2048x256.Idx → EReal) (I : IVec S8x16x16x1x256x1 32) (b : Fin 8) (i j : Fin 16) (h : Fin 256) (t : Fin 2048)
    (ht : I (ix6 b i j 0 h 0) = BitVec.ofNat 32 t.val) : Host.gather dims X I (ix5 b i j 0 h) = X (ix5 b i j t h) := by
  show X (dims.operandIdx (ix5 b i j 0 h) I) = _
  refine congrArg X (funext fun a => Fin.ext ?_)
  show dims.start (ix5 b i j 0 h) I a + dims.batchCoord (ix5 b i j 0 h) a + dims.offCoord (ix5 b i j 0 h) a = _
  rw [off_zero, Nat.add_zero]
  match a with
  | ⟨0, _⟩ =>
    rw [dims.start_batching _ _ _ (show (⟨0, by decide⟩ : Fin S8x16x16x2048x256.rank) ∈ dims.operandBatchingDims by decide), Nat.zero_add]
    rfl
  | ⟨1, _⟩ =>
    rw [dims.start_batching _ _ _ (show (⟨1, by decide⟩ : Fin S8x16x16x2048x256.rank) ∈ dims.operandBatchingDims by decide), Nat.zero_add]
    rfl
  | ⟨2, _⟩ =>
    rw [dims.start_batching _ _ _ (show (⟨2, by decide⟩ : Fin S8x16x16x2048x256.rank) ∈ dims.operandBatchingDims by decide), Nat.zero_add]
    rfl
  | ⟨3, _⟩ =>
    rw [dims.batchCoord_eq_zero _ _ (show (⟨3, by decide⟩ : Fin S8x16x16x2048x256.rank) ∉ dims.operandBatchingDims by decide), Nat.add_zero]
    unfold GatherDims.start
    rw [dif_pos (show (⟨3, by decide⟩ : Fin S8x16x16x2048x256.rank) ∈ dims.startIndexMap by decide)]
    have hi : dims.siIdx (ix5 b i j 0 h) ⟨0, by decide⟩ = ix6 b i j 0 h 0 := by
      funext a'
      match a' with
      | ⟨0, _⟩ => rfl
      | ⟨1, _⟩ => rfl
      | ⟨2, _⟩ => rfl
      | ⟨3, _⟩ => rfl
      | ⟨4, _⟩ => rfl
      | ⟨5, _⟩ => rfl
    refine (congrArg (fun w => min w.toInt.toNat 2047) ((congrArg I hi).trans ht)).trans ?_
    show min (BitVec.ofNat 32 t.val).toInt.toNat 2047 = t.val
    rw [word_toNat]
    have := t.isLt
    omega
  | ⟨4, _⟩ =>
    rw [dims.start_batching _ _ _ (show (⟨4, by decide⟩ : Fin S8x16x16x2048x256.rank) ∈ dims.operandBatchingDims by decide), Nat.zero_add]
    rfl

/-! The gathered features -/

theorem sel_word (t : Fin 2048) : Scalar.select (IntOp.cmpi .slt (BitVec.ofNat 32 t.val) 0#32) (IntOp.addi (BitVec.ofNat 32 t.val) 2048#32)
    (BitVec.ofNat 32 t.val) = BitVec.ofNat 32 t.val := by
  have ht := t.isLt
  have h0 : ¬ (BitVec.ofNat 32 t.val).toInt < (0#32).toInt := by
    have e0 : (0#32).toInt = 0 := by decide
    rw [BitVec.toInt_eq_toNat_of_lt (by rw [BitVec.toNat_ofNat]; omega), e0]
    omega
  rw [WordCmp.cmpi_slt_eq, decide_eq_false h0]
  rfl

theorem wrap_eq (A : IVec S8x16x16x256 32) (hA : ∀ y, ∃ t : Fin 2048, A y = BitVec.ofNat 32 t.val) :
    wrap A = shapeCast S8x16x16x1x256x1 (broadcastInDim S8x16x16x1x256 ![0, 1, 2, 4] bcast_S8x16x16x256_S8x16x16x1x256_0_1_2_4 A)
      shapeCasts_S8x16x16x1x256_S8x16x16x1x256x1 := by
  unfold wrap
  refine congrArg (fun x => shapeCast S8x16x16x1x256x1 x shapeCasts_S8x16x16x1x256_S8x16x16x1x256x1) (funext fun y => ?_)
  show Scalar.select (IntOp.cmpi .slt (A _) 0#32) (IntOp.addi (A _) 2048#32) (A _) = A _
  obtain ⟨t, ht⟩ := hA (fun a => _)
  rw [ht]
  exact sel_word t

theorem wrap_at (A : IVec S8x16x16x256 32) (hA : ∀ y, ∃ t : Fin 2048, A y = BitVec.ofNat 32 t.val) (b : Fin 8) (i j : Fin 16) (h : Fin 256) :
    wrap A (ix6 b i j 0 h 0) = A (ix4 b i j h) := by
  rw [wrap_eq A hA]
  pointwise

theorem wrap_mem (A : IVec S8x16x16x256 32) (hA : ∀ y, ∃ t : Fin 2048, A y = BitVec.ofNat 32 t.val) (y : S8x16x16x1x256x1.Idx) :
    ∃ t : Fin 2048, wrap A y = BitVec.ofNat 32 t.val := by
  rw [wrap_eq A hA]
  exact hA _

theorem in_range (t : Fin 2048) : IntOp.andi (IntOp.cmpi .sge (BitVec.ofNat 32 t.val) 0#32) (IntOp.cmpi .sle (BitVec.ofNat 32 t.val) 2047#32) = 1#1 := by
  have ht := t.isLt
  have e : (BitVec.ofNat 32 t.val).toInt = t.val := by
    rw [BitVec.toInt_eq_toNat_of_lt (by rw [BitVec.toNat_ofNat]; omega), BitVec.toNat_ofNat]
    omega
  have e7 : (2047#32).toInt = 2047 := by decide
  have e0 : (0#32).toInt = 0 := by decide
  rw [WordCmp.cmpi_sge_eq, WordCmp.cmpi_sle_eq, e, e0, e7, decide_eq_true (by omega), decide_eq_true (by omega)]
  rfl

/-- Dropping the axis of size one. -/
theorem drop_axis (y : S8x16x16x1x256.Idx → EReal) (b : Fin 8) (i j : Fin 16) (h : Fin 256) :
    shapeCast S8x16x16x256 y shapeCasts_S8x16x16x1x256_S8x16x16x256 (ix4 b i j h) = y (ix5 b i j 0 h) := by
  pointwise

theorem taken_at (A : IVec S8x16x16x256 32) (hA : ∀ y, ∃ t : Fin 2048, A y = BitVec.ofNat 32 t.val) (X2 : FVec Ideal S8x2048x256 .f32)
    (b : Fin 8) (i j : Fin 16) (h : Fin 256) (t : Fin 2048) (ht : A (ix4 b i j h) = BitVec.ofNat 32 t.val) :
    taken A X2 (ix4 b i j h) = X2 (ix3 b t h) := by
  unfold taken
  rw [drop_axis]
  refine (congrArg₂ (fun w x => Scalar.select w x _) (Host.reduce_andi_one _ _ _ _ (ix5 b i j 0 h) rfl fun y => ?_)
    (gather_at _ _ b i j h t ((wrap_at A hA b i j h).trans ht))).trans ?_
  · obtain ⟨t', ht'⟩ := wrap_mem A hA y
    show IntOp.andi (IntOp.cmpi .sge (wrap A y) 0#32) (IntOp.cmpi .sle (wrap A y) 2047#32) = 1#1
    rw [ht']
    exact in_range t'
  · show broadcastInDim S8x16x16x2048x256 ![0, 1, 2, 3, 4] bcast_S8x1x1x2048x256_S8x16x16x2048x256_0_1_2_3_4 (broadcastInDim S8x1x1x2048x256 ![0, 3, 4] bcast_S8x2048x256_S8x1x1x2048x256_0_3_4 X2) (ix5 b i j t h) = _
    pointwise

/-! Whether the mask holds a token -/

theorem ori_one (x y : BitVec 1) : IntOp.ori x y = 1#1 ↔ x = 1#1 ∨ y = 1#1 := by
  revert x y; decide

theorem fold_or {ι : Type} (s : Finset ι) (p : ι → BitVec 1) : s.fold IntOp.ori 0#1 p = 1#1 ↔ ∃ t ∈ s, p t = 1#1 := by
  induction s using Finset.cons_induction with
  | empty => simp
  | cons a s ha ih => rw [Finset.fold_cons, ori_one, ih]; simp

theorem any_at (M : IVec S8x16x16x2048 1) (b : Fin 8) (i j : Fin 16) :
    Host.reduce IntOp.ori M (constantI S_ 1 0#1) reducesTo_S8x16x16x2048_S8x16x16_d3 h_S_ (ix3 b i j) = 1#1
      ↔ ∃ t : Fin 2048, M (ix4 b i j t) = 1#1 := by
  rw [Host.reduce_eq_fold]
  refine (fold_or _ _).trans ?_
  constructor
  · rintro ⟨y, hy, h1⟩
    obtain ⟨t, ht⟩ := (Shape.ReducesTo.fiber_r4_a3 reducesTo_S8x16x16x2048_S8x16x16_d3 (ix3 b i j) y).1 (Finset.mem_filter.1 hy).2
    exact ⟨t, by rw [← h1, ← ht]; rfl⟩
  · rintro ⟨t, h1⟩
    exact ⟨ix4 b i j t, Finset.mem_filter.2 ⟨Finset.mem_univ _,
      (Shape.ReducesTo.fiber_r4_a3 reducesTo_S8x16x16x2048_S8x16x16_d3 (ix3 b i j) _).2 ⟨t, rfl⟩⟩, h1⟩

theorem pooled_at (M : IVec S8x16x16x2048 1) (T : FVec Ideal S8x16x16x256 .f32) (b : Fin 8) (i j : Fin 16) (h : Fin 256) :
    pooled M T (ix4 b i j h) = Scalar.select (Host.reduce IntOp.ori M (constantI S_ 1 0#1) reducesTo_S8x16x16x2048_S8x16x16_d3 h_S_ (ix3 b i j))
      (T (ix4 b i j h)) negInf := by
  unfold pooled
  generalize Host.reduce IntOp.ori M (constantI S_ 1 0#1) reducesTo_S8x16x16x2048_S8x16x16_d3 h_S_ = R
  clean_types
  pointwise
  rfl

theorem sel_one (x y : EReal) : Scalar.select 1#1 x y = x := rfl

theorem sel_zero (x y : EReal) : Scalar.select 0#1 x y = y := rfl

/-- The argmax and the gather compute the maximum over the mask. -/
theorem pool_eq (M : IVec S8x16x16x2048 1) (X2 : FVec Ideal S8x2048x256 .f32) (hX : ∀ y, ⊥ < X2 y) (b : Fin 8) (i j : Fin 16) (h : Fin 256) :
    pooled M (taken (argm M X2) X2) (ix4 b i j h)
      = Finset.fold max negInf (fun t : Fin 2048 => Scalar.select (M (ix4 b i j t)) (X2 (ix3 b t h)) negInf) Finset.univ := by
  rw [pooled_at]
  obtain ⟨V, hV, hargm⟩ : ∃ V : FVec Ideal S8x16x16x2048x256 .f32,
      (∀ (b : Fin 8) (i j : Fin 16) (t : Fin 2048) (h : Fin 256), V (ix5 b i j t h) = Scalar.select (M (ix4 b i j t)) (X2 (ix3 b t h)) negInf)
        ∧ argm M X2 = fun y => (best V y).2 := by
    refine ⟨_, ?_, rfl⟩
    intro b i j t h
    clean_types
    pointwise
    rfl
  have hA : ∀ y, ∃ t : Fin 2048, argm M X2 y = BitVec.ofNat 32 t.val := by
    intro y
    rw [hargm, eq_ix4 y]
    rcases (best_at V (y 0) (y 1) (y 2) (y 3)).2 with ⟨t, e, _⟩ | ⟨e, _⟩
    · exact ⟨t, e⟩
    · exact ⟨0, e⟩
  obtain ⟨hle, hcase⟩ := best_at V b i j h
  by_cases hM : ∃ t : Fin 2048, M (ix4 b i j t) = 1#1
  · rw [(any_at M b i j).2 hM]
    obtain ⟨t0, ht0⟩ := hM
    have hpos : ⊥ < (best V (ix4 b i j h)).1 := by
      refine lt_of_lt_of_le (hX (ix3 b t0 h)) ((hle t0).trans' ?_)
      rw [hV, ht0]
      exact le_refl _
    rcases hcase with ⟨t, e2, e1⟩ | ⟨_, e1⟩
    · have hMt : M (ix4 b i j t) = 1#1 := by
        by_contra hn
        rw [e1, hV] at hpos
        have h0 : M (ix4 b i j t) = 0#1 := by
          revert hn
          generalize M (ix4 b i j t) = w
          revert w; decide
        rw [h0, negInf_eq] at hpos
        exact absurd hpos (lt_irrefl _)
      have hval : X2 (ix3 b t h) = (best V (ix4 b i j h)).1 := by
        rw [e1, hV, hMt]; rfl
      rw [sel_one, taken_at (argm M X2) hA X2 b i j h t (by rw [hargm]; exact e2)]
      refine le_antisymm ?_ ?_
      · refine (Finset.le_fold_max _).2 (Or.inr ⟨t, Finset.mem_univ _, ?_⟩)
        rw [hMt]
        exact le_refl _
      · refine (Finset.fold_max_le _).2 ⟨by rw [negInf_eq]; exact bot_le, fun t' _ => ?_⟩
        rw [hval, ← hV]
        exact hle t'
    · exact absurd (e1 ▸ hpos) (lt_irrefl _)
  · have h0 : Host.reduce IntOp.ori M (constantI S_ 1 0#1) reducesTo_S8x16x16x2048_S8x16x16_d3 h_S_ (ix3 b i j) = 0#1 := by
      have hn := fun e => hM ((any_at M b i j).1 e)
      revert hn
      generalize Host.reduce IntOp.ori M (constantI S_ 1 0#1) reducesTo_S8x16x16x2048_S8x16x16_d3 h_S_ (ix3 b i j) = w
      revert w; decide
    rw [h0, sel_zero]
    refine le_antisymm ((Finset.le_fold_max _).2 (Or.inl (le_refl _))) ((Finset.fold_max_le _).2 ⟨le_refl _, fun t _ => ?_⟩)
    have ht : M (ix4 b i j t) = 0#1 := by
      have hn := fun e => hM ⟨t, e⟩
      revert hn
      generalize M (ix4 b i j t) = w
      revert w; decide
    rw [ht]
    exact le_refl _

theorem mask_at (X1 : IVec S8x16x2 32) (X3 : IVec S8x2048 1) (hm : ∀ (b : Fin 8) (t : Fin 2048), X3 (ix2 b t) = 1#1)
    (b : Fin 8) (p : Fin 256) (t : Fin 2048) : maskOf X1 X3 (ix4 b (hd p) (tl p) t)
      = IntOp.andi (IntOp.cmpi .sge (BitVec.ofNat 32 t.val) (lo X1 b p)) (IntOp.cmpi .slt (BitVec.ofNat 32 t.val) (hi X1 b p)) := by
  unfold maskOf
  clean_types
  pointwise
  rw [hm, andi_one]
  rfl

theorem after_at (P : FVec Ideal S8x16x16x256 .f32) (X0 : FVec Ideal S8x16x256 .f32) (X1 : IVec S8x16x2 32) (X4 : FVec Ideal S768x1152 .f32)
    (X5 : FVec Ideal S1152 .f32) (X6 : FVec Ideal S1152x256 .f32) (X7 : FVec Ideal S256 .f32) (X2 : FVec Ideal S8x2048x256 .f32)
    (b : Fin 8) (p n : Fin 256) (hP : ∀ h : Fin 256, P (ix4 b (hd p) (tl p) h) = span (lo X1 b p) (hi X1 b p) fun t => X2 (ix3 b t h)) :
    after P X0 X1 X4 X5 X6 X7 (ix3 b p n) = answer X0 X1 X2 X4 X5 X6 X7 b p n := by
  unfold after
  clean_types
  pointwise
  unfold answer
  refine congrArg₂ (· + ·) (Finset.sum_congr rfl fun k _ => ?_) rfl
  refine congrArg₂ (· * ·) (congrArg₂ max (congrArg₂ (· + ·) ?_ rfl) rfl) rfl
  rw [sum_thirds]
  refine congrArg₂ (· + ·) (congrArg₂ (· + ·) (Finset.sum_congr rfl fun h _ => ?_) (Finset.sum_congr rfl fun h _ => ?_))
    (Finset.sum_congr rfl fun h _ => ?_)
  · rw [dif_pos h.isLt]
    rfl
  · rw [dif_neg (show ¬ 256 + h.val < 256 by omega), dif_pos (show 256 + h.val - 256 < 256 by omega)]
    simp only [show 256 + h.val - 256 = h.val by omega, Fin.eta]
    rfl
  · rw [dif_neg (show ¬ 512 + h.val < 256 by omega), dif_neg (show ¬ 512 + h.val - 256 < 256 by omega)]
    simp only [show 512 + h.val - 256 - 256 = h.val by omega, Fin.eta]
    exact congrArg₂ (· * ·) (congrArg₂ (Scalar.select _) (hP h) rfl) rfl

variable (m : (ℓ : Loc nD τ sig) → Buf (Elt Ideal) ℓ) (c : Dev nD)

/-- The second reference's result, where no token is masked and none is minus infinity. -/
theorem res_eq (hm : ∀ (b : Fin 8) (t : Fin 2048), m ((c.tc : Thread nD τ).loc main_arg3) (ix2 b t) = 1#1)
    (hX : ∀ y : S8x2048x256.Idx, (⊥ : EReal) < m ((c.tc : Thread nD τ).loc main_arg2) y) (b : Fin 8) (p n : Fin 256) :
    res_main_v62 (F := Ideal) m c (ix3 b p n)
      = answer (m ((c.tc : Thread nD τ).loc main_arg0)) (m ((c.tc : Thread nD τ).loc main_arg1)) (m ((c.tc : Thread nD τ).loc main_arg2))
          (m ((c.tc : Thread nD τ).loc main_arg4)) (m ((c.tc : Thread nD τ).loc main_arg5)) (m ((c.tc : Thread nD τ).loc main_arg6))
          (m ((c.tc : Thread nD τ).loc main_arg7)) b p n := by
  rw [res_split]
  refine after_at _ _ _ _ _ _ _ _ b p n fun h => ?_
  refine (pool_eq (maskOf (m ((c.tc : Thread nD τ).loc main_arg1)) (m ((c.tc : Thread nD τ).loc main_arg3))) (m ((c.tc : Thread nD τ).loc main_arg2)) hX
    b (hd p) (tl p) h).trans ?_
  unfold span
  refine congrArg (fun f => Finset.fold max negInf f Finset.univ) (funext fun t => ?_)
  exact congrArg (fun w => Scalar.select w _ negInf) (mask_at (m ((c.tc : Thread nD τ).loc main_arg1)) (m ((c.tc : Thread nD τ).loc main_arg3)) hm b p t)

end Cert.ReferenceArgmaxIdeal.ArgmaxValue
-- ==== Proof.ArgmaxEquation.lean ====
/- The kernel's output equals the second reference's, the one that pools by argmax and gather, where no token is masked and none is
   minus infinity. -/
module

public import proofs.«01_k».proof.Proof.ArgmaxValue
public import proofs.«01_k».proof.Proof.Equation
public import proofs.«01_k».proof.Proof.Gen.Pre_unmasked_above_minus_infinity

@[expose] public section

set_option maxRecDepth 16384

noncomputable section

namespace Cert.ArgmaxEquation

open Idealize.ShloMosaic Idealize.ShloMosaic.TcCoe
open Idealize.SL Idealize.SL.Sem

theorem and_one (x y : BitVec 1) : IntOp.andi x y = 1#1 → x = 1#1 ∧ y = 1#1 := by
  revert x y; decide

/-- What the precondition says of each token. -/
theorem tokens (m : (ℓ : Loc Cert.KernelIdeal.nD Cert.KernelIdeal.τ Cert.KernelIdeal.sig) → Buf (Elt Ideal) ℓ)
    (h : Cert.Pre_KernelIdeal_unmasked_above_minus_infinity m) (c : Dev Cert.KernelIdeal.nD) :
    (∀ (b : Fin 8) (t : Fin 2048), m ((c.tc : Thread Cert.KernelIdeal.nD Cert.KernelIdeal.τ).loc Cert.KernelIdeal.main_arg3) (ix2 b t) = 1#1)
      ∧ ∀ y : Cert.KernelIdeal.S8x2048x256.Idx,
        (⊥ : EReal) < m ((c.tc : Thread Cert.KernelIdeal.nD Cert.KernelIdeal.τ).loc Cert.KernelIdeal.main_arg2) y := by
  have h1 := congrFun (h c) ix0
  unfold Cert.Pre_unmasked_above_minus_infinity.fn at h1
  haveI : Subsingleton Cert.Pre_unmasked_above_minus_infinity.S_.Idx := ⟨fun i j => funext fun a => a.elim0⟩
  obtain ⟨h2, h3⟩ := and_one _ _ h1
  refine ⟨fun b t => Host.reduce_andi_all _ _ _ _ ix0 h2 (ix2 b t), fun y => ?_⟩
  have h4 : Ideal.cmp .ogt (m ((c.tc : Thread Cert.KernelIdeal.nD Cert.KernelIdeal.τ).loc Cert.KernelIdeal.main_arg2) y) Cert.Spans.negInf = 1#1 :=
    Host.reduce_andi_all _ _ _ _ ix0 h3 y
  rw [Cert.Spans.negInf_eq] at h4
  by_contra hn
  simp [Ideal.cmp, hn] at h4

theorem algebraic : Cert.algebraic_KernelIdeal_ReferenceArgmaxIdeal_pre_unmasked_above_minus_infinity := by
  intro m g m' g' hpre hagree
  refine ⟨fun c => Cert.KernelIdeal.Gen.W4 (F := Ideal) m g c (Proc.devRef .tc Cert.KernelIdeal.main_v0), ?_, ?_⟩
  · exact (θ_run Cert.KernelIdeal.defs _ _).mono (fun r h => h.1) (Cert.KernelIdeal.Run.run (F := Ideal) m g)
  · refine (θ_run Cert.ReferenceArgmaxIdeal.defs _ _).mono (fun r h c => ⟨(h c).1.trans ?_, (h c).2⟩)
      (Cert.ReferenceArgmaxIdeal.Value.run (F := Ideal) m' g')
    obtain ⟨e0, e1, e2, e3, e4, e5, e6, e7⟩ := hagree c
    obtain ⟨hm, hX⟩ := tokens m hpre c
    funext j
    rw [eq_ix3 j]
    refine (Cert.ReferenceArgmaxIdeal.ArgmaxValue.res_eq m' c (fun b t => (congrFun e3 _).trans (hm b t))
      (fun y => (hX y).trans_eq (congrFun e2 y).symm) (j 0) (j 1) (j 2)).trans ?_
    rw [e0, e1, e2, e4, e5, e6, e7]
    exact (Cert.Equation.kernel_eq m g c (j 0) (j 1) (j 2)).symm

end Cert.ArgmaxEquation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.ReferenceArgmaxIdeal
public import proofs.«01_k».proof.Proof.Gen.Pre_all_unmasked
public import proofs.«01_k».proof.Proof.Gen.Pre_unmasked_above_minus_infinity
public import proofs.«01_k».proof.Proof.Equation
public import proofs.«01_k».proof.Proof.ArgmaxEquation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.ReferenceArgmaxIdeal.Gen.facts,
  Cert.Pre_all_unmasked.Gen.facts, Cert.Pre_unmasked_above_minus_infinity.Gen.facts,
  fun m ρ _ => Cert.Kernel.Gen.frame m ρ, fun m ρ _ => Cert.KernelIdeal.Gen.frame m ρ, fun m ρ _ => Cert.KernelIdeal.Gen.frame m ρ,
  fun m ρ _ => Cert.KernelIdeal.Gen.frame m ρ,
  fun m ρ _ => (θ_run Cert.ReferenceIdeal.defs _ _).mono (fun r h => ⟨fun c => (h c).2, sem_eq_zero_of_no_sems (by decide) r.2⟩)
    (Cert.ReferenceIdeal.Value.run (F := Ideal) m ρ),
  fun m ρ _ => (θ_run Cert.ReferenceIdeal.defs _ _).mono (fun r h => ⟨fun c => (h c).2, sem_eq_zero_of_no_sems (by decide) r.2⟩)
    (Cert.ReferenceIdeal.Value.run (F := Ideal) m ρ),
  fun m ρ _ => (θ_run Cert.ReferenceArgmaxIdeal.defs _ _).mono (fun r h => ⟨fun c => (h c).2, sem_eq_zero_of_no_sems (by decide) r.2⟩)
    (Cert.ReferenceArgmaxIdeal.Value.run (F := Ideal) m ρ),
  fun m ρ _ => (θ_run Cert.ReferenceArgmaxIdeal.defs _ _).mono (fun r h => ⟨fun c => (h c).2, sem_eq_zero_of_no_sems (by decide) r.2⟩)
    (Cert.ReferenceArgmaxIdeal.Value.run (F := Ideal) m ρ),
  trivial, Cert.Equation.algebraic, Cert.ArgmaxEquation.algebraic⟩

end Cert.Proof

end
